-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![64, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x512 : Shape := ⟨2, ![2048, 512]⟩
abbrev S512x64 : Shape := ⟨2, ![512, 64]⟩
abbrev S2048x2 : Shape := ⟨2, ![2048, 2]⟩
abbrev S8x512x1024 : Shape := ⟨3, ![8, 512, 1024]⟩
abbrev S_ : Shape := ⟨0, ![]⟩

class Facts : Prop where
  bcast_S_S2048x512 : S_.BroadcastsInDim S2048x512 (![] : Fin 0 → Fin S2048x512.rank)
  bcast_S_S512x64 : S_.BroadcastsInDim S512x64 (![] : Fin 0 → Fin S512x64.rank)

variable [Facts]

def fn {F : FTy → Type} [FloatOps F] (main_arg0 : FVec F S2048x512 .bf16) (main_arg1 : FVec F S512x64 .bf16) (main_arg2 : IVec S2048x2 32) (main_arg3 : FVec F S8x512x1024 .bf16) : IVec S2048x512 1 × IVec S512x64 1 :=
  let main_v0 : FVec F S2048x512 .bf16 := Host.absf main_arg0
  let main_cst : FVec F S_ .bf16 := constant S_ .bf16 0x7F80#16
  let main_v1 : FVec F S2048x512 .bf16 := broadcastInDim S2048x512 ![] bcast_S_S2048x512 main_cst
  let main_v2 : IVec S2048x512 1 := cmpf .olt main_v0 main_v1
  let main_v3 : FVec F S512x64 .bf16 := Host.absf main_arg1
  let main_cst_0 : FVec F S_ .bf16 := constant S_ .bf16 0x7F80#16
  let main_v4 : FVec F S512x64 .bf16 := broadcastInDim S512x64 ![] bcast_S_S512x64 main_cst_0
  let main_v5 : IVec S512x64 1 := cmpf .olt main_v3 main_v4
  (main_v2, main_v5)
-- ==== Pre_finite_ReferenceIdeal.lean ====
abbrev S2048x512 : Shape := ⟨2, ![2048, 512]⟩
abbrev S512x64 : Shape := ⟨2, ![512, 64]⟩
abbrev S2048x2 : Shape := ⟨2, ![2048, 2]⟩
abbrev S64x512x1024 : Shape := ⟨3, ![64, 512, 1024]⟩
abbrev S_ : Shape := ⟨0, ![]⟩

class Facts : Prop where
  bcast_S_S2048x512 : S_.BroadcastsInDim S2048x512 (![] : Fin 0 → Fin S2048x512.rank)
  bcast_S_S512x64 : S_.BroadcastsInDim S512x64 (![] : Fin 0 → Fin S512x64.rank)

variable [Facts]

def fn {F : FTy → Type} [FloatOps F] (main_arg0 : FVec F S2048x512 .bf16) (main_arg1 : FVec F S512x64 .bf16) (main_arg2 : IVec S2048x2 32) (main_arg3 : FVec F S64x512x1024 .bf16) : IVec S2048x512 1 × IVec S512x64 1 :=
  let main_v0 : FVec F S2048x512 .bf16 := Host.absf main_arg0
  let main_cst : FVec F S_ .bf16 := constant S_ .bf16 0x7F80#16
  let main_v1 : FVec F S2048x512 .bf16 := broadcastInDim S2048x512 ![] bcast_S_S2048x512 main_cst
  let main_v2 : IVec S2048x512 1 := cmpf .olt main_v0 main_v1
  let main_v3 : FVec F S512x64 .bf16 := Host.absf main_arg1
  let main_cst_0 : FVec F S_ .bf16 := constant S_ .bf16 0x7F80#16
  let main_v4 : FVec F S512x64 .bf16 := broadcastInDim S512x64 ![] bcast_S_S512x64 main_cst_0
  let main_v5 : IVec S512x64 1 := cmpf .olt main_v3 main_v4
  (main_v2, main_v5)
-- ==== Kernel.lean ====
abbrev S2048x512 : Shape := ⟨2, ![2048, 512]⟩
abbrev S512x64 : Shape := ⟨2, ![512, 64]⟩
abbrev S2048x2 : Shape := ⟨2, ![2048, 2]⟩
abbrev S8x512x1024 : Shape := ⟨3, ![8, 512, 1024]⟩
abbrev S2048x1024 : Shape := ⟨2, ![2048, 1024]⟩
abbrev S2048x8 : Shape := ⟨2, ![2048, 8]⟩
abbrev S256x4096 : Shape := ⟨2, ![256, 4096]⟩
abbrev S7x256x512 : Shape := ⟨3, ![7, 256, 512]⟩
abbrev S256x512 : Shape := ⟨2, ![256, 512]⟩
abbrev S7 : Shape := ⟨1, ![7]⟩
abbrev S28 : Shape := ⟨1, ![28]⟩
abbrev S_ : Shape := ⟨0, ![]⟩
abbrev S2048x64 : Shape := ⟨2, ![2048, 64]⟩
abbrev S2048 : Shape := ⟨1, ![2048]⟩
abbrev S2048x1 : Shape := ⟨2, ![2048, 1]⟩
abbrev S256x8 : Shape := ⟨2, ![256, 8]⟩
abbrev S256x1 : Shape := ⟨2, ![256, 1]⟩
abbrev S256 : Shape := ⟨1, ![256]⟩
abbrev S8x512x512 : Shape := ⟨3, ![8, 512, 512]⟩
abbrev S4096x512 : Shape := ⟨2, ![4096, 512]⟩
abbrev S1x256x512 : Shape := ⟨3, ![1, 256, 512]⟩
abbrev S1 : Shape := ⟨1, ![1]⟩
abbrev S1x64x512 : Shape := ⟨3, ![1, 64, 512]⟩
abbrev S64x512 : Shape := ⟨2, ![64, 512]⟩

abbrev nBuf : Space → Nat
  | .hbm => 5
  | .vmem => 16
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x2, .i32⟩
  | .hbm, ⟨3, _⟩ => ⟨S8x512x1024, .bf16⟩
  | .hbm, ⟨4, _⟩ => ⟨S2048x1024, .f32⟩
  | .local _ .vmem, ⟨0, _⟩ => ⟨S2048x512, .bf16⟩
  | .local _ .vmem, ⟨1, _⟩ => ⟨S512x64, .bf16⟩
  | .local _ .vmem, ⟨2, _⟩ => ⟨S2048x2, .i32⟩
  | .local _ .vmem, ⟨3, _⟩ => ⟨S8x512x1024, .bf16⟩
  | .local _ .vmem, ⟨4, _⟩ => ⟨S2048x1024, .f32⟩
  | .local _ .vmem, ⟨5, _⟩ => ⟨S2048x8, .bf16⟩
  | .local _ .vmem, ⟨6, _⟩ => ⟨S2048x512, .bf16⟩
  | .local _ .vmem, ⟨7, _⟩ => ⟨S256x4096, .bf16⟩
  | .local _ .vmem, ⟨8, _⟩ => ⟨S7x256x512, .bf16⟩
  | .local _ .vmem, ⟨9, _⟩ => ⟨S7x256x512, .bf16⟩
  | .local _ .vmem, ⟨10, _⟩ => ⟨S7x256x512, .bf16⟩
  | .local _ .vmem, ⟨11, _⟩ => ⟨S7x256x512, .bf16⟩
  | .local _ .vmem, ⟨12, _⟩ => ⟨S256x512, .bf16⟩
  | .local _ .vmem, ⟨13, _⟩ => ⟨S256x512, .bf16⟩
  | .local _ .vmem, ⟨14, _⟩ => ⟨S7x256x512, .bf16⟩
  | .local _ .vmem, ⟨15, _⟩ => ⟨S7x256x512, .bf16⟩
  | _, _ => ⟨S2048x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 145 → Bool
  | ⟨i, _⟩ => dmaSemScopedAt i

abbrev sig : RefSig :=
  (ofTc nBuf bufTy 1 145 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v84 : BitVec 32 := Scalar.muli v2 c256_i32
  let v85 : Index := Scalar.indexCast v84
  let c0_37 : Index := 0#32
  ![v85.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v84 : BitVec 32 := Scalar.muli v2 c256_i32
  let v87 : Index := Scalar.indexCast v84
  let c0_38 : Index := 0#32
  ![v87.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v84 : BitVec 32 := Scalar.muli v2 c256_i32
  let v158 : Index := Scalar.indexCast v84
  let c0_54 : Index := 0#32
  ![v158.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_55 : BitVec 32 := 256#32
  let v160 : BitVec 32 := Scalar.muli v2 c256_i32_55
  let v234 : Index := Scalar.indexCast v160
  let c512_80 : Index := 512#32
  ![v234.toNat, 512]
def k0_off5 (d0 : Dev nD) (c0_i32_81 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v236 : BitVec 32 := Scalar.subi v2 c0_i32_81
  let c8_i32_82 : BitVec 32 := 8#32
  let c0_i32_83 : BitVec 32 := 0#32
  let v237 : BitVec 1 := Scalar.cmpi .eq c8_i32_82 c0_i32_83
  let c1_i32_84 : BitVec 32 := 1#32
  let v238 : BitVec 32 := Scalar.select v237 c1_i32_84 c8_i32_82
  let v239 : BitVec 32 := Scalar.remsi v236 v238
  let c0_i32_86 : BitVec 32 := 0#32
  let v241 : BitVec 1 := Scalar.cmpi .slt v239 c0_i32_86
  let c0_i32_87 : BitVec 32 := 0#32
  let v242 : BitVec 1 := Scalar.cmpi .slt v238 c0_i32_87
  let v243 : BitVec 1 := Scalar.xori v241 v242
  let c0_i32_85 : BitVec 32 := 0#32
  let v240 : BitVec 1 := Scalar.cmpi .ne v239 c0_i32_85
  let v244 : BitVec 1 := Scalar.andi v243 v240
  let v245 : BitVec 32 := Scalar.addi v239 v238
  let v246 : BitVec 32 := Scalar.select v244 v245 v239
  let c256_i32_111 : BitVec 32 := 256#32
  let v282 : BitVec 32 := Scalar.muli v246 c256_i32_111
  let v283 : Index := Scalar.indexCast v282
  let c0_112 : Index := 0#32
  ![v283.toNat, 0]
def k0_off6 (d0 : Dev nD) (c0_i32_88 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v247 : BitVec 32 := Scalar.addi v2 c0_i32_88
  let c8_i32_89 : BitVec 32 := 8#32
  let c0_i32_90 : BitVec 32 := 0#32
  let v248 : BitVec 1 := Scalar.cmpi .eq c8_i32_89 c0_i32_90
  let c1_i32_91 : BitVec 32 := 1#32
  let v249 : BitVec 32 := Scalar.select v248 c1_i32_91 c8_i32_89
  let v250 : BitVec 32 := Scalar.remsi v247 v249
  let c0_i32_93 : BitVec 32 := 0#32
  let v252 : BitVec 1 := Scalar.cmpi .slt v250 c0_i32_93
  let c0_i32_94 : BitVec 32 := 0#32
  let v253 : BitVec 1 := Scalar.cmpi .slt v249 c0_i32_94
  let v254 : BitVec 1 := Scalar.xori v252 v253
  let c0_i32_92 : BitVec 32 := 0#32
  let v251 : BitVec 1 := Scalar.cmpi .ne v250 c0_i32_92
  let v255 : BitVec 1 := Scalar.andi v254 v251
  let v256 : BitVec 32 := Scalar.addi v250 v249
  let v257 : BitVec 32 := Scalar.select v255 v256 v250
  let c256_i32_116 : BitVec 32 := 256#32
  let v290 : BitVec 32 := Scalar.muli v257 c256_i32_116
  let v291 : Index := Scalar.indexCast v290
  let c512_117 : Index := 512#32
  ![v291.toNat, 512]
def k0_dev3 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_125 : BitVec 32 := 1#32
  let v298 : BitVec 32 := Scalar.muli v24 c1_i32_125
  let v299 : BitVec 32 := Scalar.addi c0_i32_126 v298
  v299.toNat
def k0_dev4 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_135 : BitVec 32 := 1#32
  let v308 : BitVec 32 := Scalar.muli v13 c1_i32_135
  let v309 : BitVec 32 := Scalar.addi c0_i32_136 v308
  v309.toNat
def k0_off7 (d0 : Dev nD) (c0_i32_95 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v258 : BitVec 32 := Scalar.subi v2 c0_i32_95
  let c1_i32_96 : BitVec 32 := 1#32
  let v259 : BitVec 32 := Scalar.subi v258 c1_i32_96
  let c8_i32_97 : BitVec 32 := 8#32
  let c0_i32_98 : BitVec 32 := 0#32
  let v260 : BitVec 1 := Scalar.cmpi .eq c8_i32_97 c0_i32_98
  let c1_i32_99 : BitVec 32 := 1#32
  let v261 : BitVec 32 := Scalar.select v260 c1_i32_99 c8_i32_97
  let v262 : BitVec 32 := Scalar.remsi v259 v261
  let c0_i32_101 : BitVec 32 := 0#32
  let v264 : BitVec 1 := Scalar.cmpi .slt v262 c0_i32_101
  let c0_i32_102 : BitVec 32 := 0#32
  let v265 : BitVec 1 := Scalar.cmpi .slt v261 c0_i32_102
  let v266 : BitVec 1 := Scalar.xori v264 v265
  let c0_i32_100 : BitVec 32 := 0#32
  let v263 : BitVec 1 := Scalar.cmpi .ne v262 c0_i32_100
  let v267 : BitVec 1 := Scalar.andi v266 v263
  let v268 : BitVec 32 := Scalar.addi v262 v261
  let v269 : BitVec 32 := Scalar.select v267 v268 v262
  let c256_i32_141 : BitVec 32 := 256#32
  let v318 : BitVec 32 := Scalar.muli v269 c256_i32_141
  let v319 : Index := Scalar.indexCast v318
  let c0_142 : Index := 0#32
  ![v319.toNat, 0]
def k0_off8 (d0 : Dev nD) (c0_i32_95 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v258 : BitVec 32 := Scalar.subi v2 c0_i32_95
  let c1_i32_96 : BitVec 32 := 1#32
  let v259 : BitVec 32 := Scalar.subi v258 c1_i32_96
  let c8_i32_97 : BitVec 32 := 8#32
  let c0_i32_98 : BitVec 32 := 0#32
  let v260 : BitVec 1 := Scalar.cmpi .eq c8_i32_97 c0_i32_98
  let c1_i32_99 : BitVec 32 := 1#32
  let v261 : BitVec 32 := Scalar.select v260 c1_i32_99 c8_i32_97
  let v262 : BitVec 32 := Scalar.remsi v259 v261
  let c0_i32_101 : BitVec 32 := 0#32
  let v264 : BitVec 1 := Scalar.cmpi .slt v262 c0_i32_101
  let c0_i32_102 : BitVec 32 := 0#32
  let v265 : BitVec 1 := Scalar.cmpi .slt v261 c0_i32_102
  let v266 : BitVec 1 := Scalar.xori v264 v265
  let c0_i32_100 : BitVec 32 := 0#32
  let v263 : BitVec 1 := Scalar.cmpi .ne v262 c0_i32_100
  let v267 : BitVec 1 := Scalar.andi v266 v263
  let v268 : BitVec 32 := Scalar.addi v262 v261
  let v269 : BitVec 32 := Scalar.select v267 v268 v262
  let c256_i32_141 : BitVec 32 := 256#32
  let v318 : BitVec 32 := Scalar.muli v269 c256_i32_141
  let v321 : Index := Scalar.indexCast v318
  let c0_143 : Index := 0#32
  ![v321.toNat, 0]
def k0_off9 (d0 : Dev nD) (c0_i32_95 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v258 : BitVec 32 := Scalar.subi v2 c0_i32_95
  let c1_i32_96 : BitVec 32 := 1#32
  let v259 : BitVec 32 := Scalar.subi v258 c1_i32_96
  let c8_i32_97 : BitVec 32 := 8#32
  let c0_i32_98 : BitVec 32 := 0#32
  let v260 : BitVec 1 := Scalar.cmpi .eq c8_i32_97 c0_i32_98
  let c1_i32_99 : BitVec 32 := 1#32
  let v261 : BitVec 32 := Scalar.select v260 c1_i32_99 c8_i32_97
  let v262 : BitVec 32 := Scalar.remsi v259 v261
  let c0_i32_101 : BitVec 32 := 0#32
  let v264 : BitVec 1 := Scalar.cmpi .slt v262 c0_i32_101
  let c0_i32_102 : BitVec 32 := 0#32
  let v265 : BitVec 1 := Scalar.cmpi .slt v261 c0_i32_102
  let v266 : BitVec 1 := Scalar.xori v264 v265
  let c0_i32_100 : BitVec 32 := 0#32
  let v263 : BitVec 1 := Scalar.cmpi .ne v262 c0_i32_100
  let v267 : BitVec 1 := Scalar.andi v266 v263
  let v268 : BitVec 32 := Scalar.addi v262 v261
  let v269 : BitVec 32 := Scalar.select v267 v268 v262
  let c256_i32_141 : BitVec 32 := 256#32
  let v318 : BitVec 32 := Scalar.muli v269 c256_i32_141
  let v392 : Index := Scalar.indexCast v318
  let c0_166 : Index := 0#32
  ![v392.toNat, 0]
def k0_off10 (d0 : Dev nD) (c0_i32_103 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v270 : BitVec 32 := Scalar.addi v2 c0_i32_103
  let c1_i32_104 : BitVec 32 := 1#32
  let v271 : BitVec 32 := Scalar.addi v270 c1_i32_104
  let c8_i32_105 : BitVec 32 := 8#32
  let c0_i32_106 : BitVec 32 := 0#32
  let v272 : BitVec 1 := Scalar.cmpi .eq c8_i32_105 c0_i32_106
  let c1_i32_107 : BitVec 32 := 1#32
  let v273 : BitVec 32 := Scalar.select v272 c1_i32_107 c8_i32_105
  let v274 : BitVec 32 := Scalar.remsi v271 v273
  let c0_i32_109 : BitVec 32 := 0#32
  let v276 : BitVec 1 := Scalar.cmpi .slt v274 c0_i32_109
  let c0_i32_110 : BitVec 32 := 0#32
  let v277 : BitVec 1 := Scalar.cmpi .slt v273 c0_i32_110
  let v278 : BitVec 1 := Scalar.xori v276 v277
  let c0_i32_108 : BitVec 32 := 0#32
  let v275 : BitVec 1 := Scalar.cmpi .ne v274 c0_i32_108
  let v279 : BitVec 1 := Scalar.andi v278 v275
  let v280 : BitVec 32 := Scalar.addi v274 v273
  let v281 : BitVec 32 := Scalar.select v279 v280 v274
  let c256_i32_167 : BitVec 32 := 256#32
  let v394 : BitVec 32 := Scalar.muli v281 c256_i32_167
  let v395 : Index := Scalar.indexCast v394
  let c0_168 : Index := 0#32
  ![v395.toNat, 0]
def k0_off11 (d0 : Dev nD) (c0_i32_103 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v270 : BitVec 32 := Scalar.addi v2 c0_i32_103
  let c1_i32_104 : BitVec 32 := 1#32
  let v271 : BitVec 32 := Scalar.addi v270 c1_i32_104
  let c8_i32_105 : BitVec 32 := 8#32
  let c0_i32_106 : BitVec 32 := 0#32
  let v272 : BitVec 1 := Scalar.cmpi .eq c8_i32_105 c0_i32_106
  let c1_i32_107 : BitVec 32 := 1#32
  let v273 : BitVec 32 := Scalar.select v272 c1_i32_107 c8_i32_105
  let v274 : BitVec 32 := Scalar.remsi v271 v273
  let c0_i32_109 : BitVec 32 := 0#32
  let v276 : BitVec 1 := Scalar.cmpi .slt v274 c0_i32_109
  let c0_i32_110 : BitVec 32 := 0#32
  let v277 : BitVec 1 := Scalar.cmpi .slt v273 c0_i32_110
  let v278 : BitVec 1 := Scalar.xori v276 v277
  let c0_i32_108 : BitVec 32 := 0#32
  let v275 : BitVec 1 := Scalar.cmpi .ne v274 c0_i32_108
  let v279 : BitVec 1 := Scalar.andi v278 v275
  let v280 : BitVec 32 := Scalar.addi v274 v273
  let v281 : BitVec 32 := Scalar.select v279 v280 v274
  let c256_i32_167 : BitVec 32 := 256#32
  let v394 : BitVec 32 := Scalar.muli v281 c256_i32_167
  let v397 : Index := Scalar.indexCast v394
  let c0_169 : Index := 0#32
  ![v397.toNat, 0]
def k0_off12 (d0 : Dev nD) (c0_i32_103 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v270 : BitVec 32 := Scalar.addi v2 c0_i32_103
  let c1_i32_104 : BitVec 32 := 1#32
  let v271 : BitVec 32 := Scalar.addi v270 c1_i32_104
  let c8_i32_105 : BitVec 32 := 8#32
  let c0_i32_106 : BitVec 32 := 0#32
  let v272 : BitVec 1 := Scalar.cmpi .eq c8_i32_105 c0_i32_106
  let c1_i32_107 : BitVec 32 := 1#32
  let v273 : BitVec 32 := Scalar.select v272 c1_i32_107 c8_i32_105
  let v274 : BitVec 32 := Scalar.remsi v271 v273
  let c0_i32_109 : BitVec 32 := 0#32
  let v276 : BitVec 1 := Scalar.cmpi .slt v274 c0_i32_109
  let c0_i32_110 : BitVec 32 := 0#32
  let v277 : BitVec 1 := Scalar.cmpi .slt v273 c0_i32_110
  let v278 : BitVec 1 := Scalar.xori v276 v277
  let c0_i32_108 : BitVec 32 := 0#32
  let v275 : BitVec 1 := Scalar.cmpi .ne v274 c0_i32_108
  let v279 : BitVec 1 := Scalar.andi v278 v275
  let v280 : BitVec 32 := Scalar.addi v274 v273
  let v281 : BitVec 32 := Scalar.select v279 v280 v274
  let c256_i32_167 : BitVec 32 := 256#32
  let v394 : BitVec 32 := Scalar.muli v281 c256_i32_167
  let v468 : Index := Scalar.indexCast v394
  let c512_192 : Index := 512#32
  ![v468.toNat, 512]
def k0_dev5 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_271 : BitVec 32 := 1#32
  let v570 : BitVec 32 := Scalar.muli v24 c1_i32_271
  let v571 : BitVec 32 := Scalar.addi c0_i32_272 v570
  v571.toNat
def k0_dev6 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_281 : BitVec 32 := 1#32
  let v580 : BitVec 32 := Scalar.muli v13 c1_i32_281
  let v581 : BitVec 32 := Scalar.addi c0_i32_282 v580
  v581.toNat
def k0_dev7 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_416 : BitVec 32 := 1#32
  let v842 : BitVec 32 := Scalar.muli v24 c1_i32_416
  let v843 : BitVec 32 := Scalar.addi c0_i32_417 v842
  v843.toNat
def k0_dev8 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_426 : BitVec 32 := 1#32
  let v852 : BitVec 32 := Scalar.muli v13 c1_i32_426
  let v853 : BitVec 32 := Scalar.addi c0_i32_427 v852
  v853.toNat
def k0_dev9 (d0 : Dev nD) : Nat :=
  let c0_i32_561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_560 : BitVec 32 := 1#32
  let v1114 : BitVec 32 := Scalar.muli v24 c1_i32_560
  let v1115 : BitVec 32 := Scalar.addi c0_i32_561 v1114
  v1115.toNat
def k0_dev10 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_570 : BitVec 32 := 1#32
  let v1124 : BitVec 32 := Scalar.muli v13 c1_i32_570
  let v1125 : BitVec 32 := Scalar.addi c0_i32_571 v1124
  v1125.toNat
def k0_dev11 (d0 : Dev nD) : Nat :=
  let c0_i32_705 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_704 : BitVec 32 := 1#32
  let v1386 : BitVec 32 := Scalar.muli v24 c1_i32_704
  let v1387 : BitVec 32 := Scalar.addi c0_i32_705 v1386
  v1387.toNat
def k0_dev12 (d0 : Dev nD) : Nat :=
  let c0_i32_715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_714 : BitVec 32 := 1#32
  let v1396 : BitVec 32 := Scalar.muli v13 c1_i32_714
  let v1397 : BitVec 32 := Scalar.addi c0_i32_715 v1396
  v1397.toNat
def k0_dev13 (d0 : Dev nD) : Nat :=
  let c0_i32_849 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_848 : BitVec 32 := 1#32
  let v1658 : BitVec 32 := Scalar.muli v24 c1_i32_848
  let v1659 : BitVec 32 := Scalar.addi c0_i32_849 v1658
  v1659.toNat
def k0_dev14 (d0 : Dev nD) : Nat :=
  let c0_i32_859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_858 : BitVec 32 := 1#32
  let v1668 : BitVec 32 := Scalar.muli v13 c1_i32_858
  let v1669 : BitVec 32 := Scalar.addi c0_i32_859 v1668
  v1669.toNat
def k0_dev15 (d0 : Dev nD) : Nat :=
  let c0_i32_993 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_992 : BitVec 32 := 1#32
  let v1930 : BitVec 32 := Scalar.muli v24 c1_i32_992
  let v1931 : BitVec 32 := Scalar.addi c0_i32_993 v1930
  v1931.toNat
def k0_dev16 (d0 : Dev nD) : Nat :=
  let c0_i32_1003 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1002 : BitVec 32 := 1#32
  let v1940 : BitVec 32 := Scalar.muli v13 c1_i32_1002
  let v1941 : BitVec 32 := Scalar.addi c0_i32_1003 v1940
  v1941.toNat
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1220 : BitVec 32 := 1#32
  let v2224 : BitVec 32 := Scalar.addi v2 c1_i32_1220
  let c8_i32_1221 : BitVec 32 := 8#32
  let c0_i32_1222 : BitVec 32 := 0#32
  let v2225 : BitVec 1 := Scalar.cmpi .eq c8_i32_1221 c0_i32_1222
  let c1_i32_1223 : BitVec 32 := 1#32
  let v2226 : BitVec 32 := Scalar.select v2225 c1_i32_1223 c8_i32_1221
  let v2227 : BitVec 32 := Scalar.remsi v2224 v2226
  let c0_i32_1225 : BitVec 32 := 0#32
  let v2229 : BitVec 1 := Scalar.cmpi .slt v2227 c0_i32_1225
  let c0_i32_1226 : BitVec 32 := 0#32
  let v2230 : BitVec 1 := Scalar.cmpi .slt v2226 c0_i32_1226
  let v2231 : BitVec 1 := Scalar.xori v2229 v2230
  let c0_i32_1224 : BitVec 32 := 0#32
  let v2228 : BitVec 1 := Scalar.cmpi .ne v2227 c0_i32_1224
  let v2232 : BitVec 1 := Scalar.andi v2231 v2228
  let v2233 : BitVec 32 := Scalar.addi v2227 v2226
  let v2234 : BitVec 32 := Scalar.select v2232 v2233 v2227
  let c256_i32_1227 : BitVec 32 := 256#32
  let v2235 : BitVec 32 := Scalar.muli v2234 c256_i32_1227
  let v2236 : Index := Scalar.indexCast v2235
  let c0_1228 : Index := 0#32
  ![v2236.toNat, 0]
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1231 : BitVec 32 := 1#32
  let v2243 : BitVec 32 := Scalar.subi v2 c1_i32_1231
  let c8_i32_1232 : BitVec 32 := 8#32
  let c0_i32_1233 : BitVec 32 := 0#32
  let v2244 : BitVec 1 := Scalar.cmpi .eq c8_i32_1232 c0_i32_1233
  let c1_i32_1234 : BitVec 32 := 1#32
  let v2245 : BitVec 32 := Scalar.select v2244 c1_i32_1234 c8_i32_1232
  let v2246 : BitVec 32 := Scalar.remsi v2243 v2245
  let c0_i32_1236 : BitVec 32 := 0#32
  let v2248 : BitVec 1 := Scalar.cmpi .slt v2246 c0_i32_1236
  let c0_i32_1237 : BitVec 32 := 0#32
  let v2249 : BitVec 1 := Scalar.cmpi .slt v2245 c0_i32_1237
  let v2250 : BitVec 1 := Scalar.xori v2248 v2249
  let c0_i32_1235 : BitVec 32 := 0#32
  let v2247 : BitVec 1 := Scalar.cmpi .ne v2246 c0_i32_1235
  let v2251 : BitVec 1 := Scalar.andi v2250 v2247
  let v2252 : BitVec 32 := Scalar.addi v2246 v2245
  let v2253 : BitVec 32 := Scalar.select v2251 v2252 v2246
  let c256_i32_1238 : BitVec 32 := 256#32
  let v2254 : BitVec 32 := Scalar.muli v2253 c256_i32_1238
  let v2255 : Index := Scalar.indexCast v2254
  let c512_1239 : Index := 512#32
  ![v2255.toNat, 512]
def k0_dev17 (d0 : Dev nD) : Nat :=
  let c0_i32_1246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1245 : BitVec 32 := 1#32
  let v2262 : BitVec 32 := Scalar.muli v24 c1_i32_1245
  let v2263 : BitVec 32 := Scalar.addi c0_i32_1246 v2262
  v2263.toNat
def k0_dev18 (d0 : Dev nD) : Nat :=
  let c0_i32_1255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1254 : BitVec 32 := 1#32
  let v2271 : BitVec 32 := Scalar.muli v13 c1_i32_1254
  let v2272 : BitVec 32 := Scalar.addi c0_i32_1255 v2271
  v2272.toNat
def k0_dev19 (d0 : Dev nD) : Nat :=
  let c0_i32_1264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1263 : BitVec 32 := 1#32
  let v2280 : BitVec 32 := Scalar.muli v24 c1_i32_1263
  let v2281 : BitVec 32 := Scalar.addi c0_i32_1264 v2280
  v2281.toNat
def k0_dev20 (d0 : Dev nD) : Nat :=
  let c0_i32_1272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1271 : BitVec 32 := 1#32
  let v2289 : BitVec 32 := Scalar.muli v13 c1_i32_1271
  let v2290 : BitVec 32 := Scalar.addi c0_i32_1272 v2289
  v2290.toNat
def k0_dev21 (d0 : Dev nD) : Nat :=
  let c0_i32_1281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1280 : BitVec 32 := 1#32
  let v2298 : BitVec 32 := Scalar.muli v24 c1_i32_1280
  let v2299 : BitVec 32 := Scalar.addi c0_i32_1281 v2298
  v2299.toNat
def k0_dev22 (d0 : Dev nD) : Nat :=
  let c0_i32_1289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1288 : BitVec 32 := 1#32
  let v2307 : BitVec 32 := Scalar.muli v13 c1_i32_1288
  let v2308 : BitVec 32 := Scalar.addi c0_i32_1289 v2307
  v2308.toNat
def k0_dev23 (d0 : Dev nD) : Nat :=
  let c0_i32_1298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1297 : BitVec 32 := 1#32
  let v2316 : BitVec 32 := Scalar.muli v24 c1_i32_1297
  let v2317 : BitVec 32 := Scalar.addi c0_i32_1298 v2316
  v2317.toNat
def k0_dev24 (d0 : Dev nD) : Nat :=
  let c0_i32_1306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1305 : BitVec 32 := 1#32
  let v2325 : BitVec 32 := Scalar.muli v13 c1_i32_1305
  let v2326 : BitVec 32 := Scalar.addi c0_i32_1306 v2325
  v2326.toNat
def k0_dev25 (d0 : Dev nD) : Nat :=
  let c0_i32_1325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1324 : BitVec 32 := 1#32
  let v2341 : BitVec 32 := Scalar.muli v24 c1_i32_1324
  let v2342 : BitVec 32 := Scalar.addi c0_i32_1325 v2341
  v2342.toNat
def k0_dev26 (d0 : Dev nD) : Nat :=
  let c0_i32_1344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1343 : BitVec 32 := 1#32
  let v2358 : BitVec 32 := Scalar.muli v13 c1_i32_1343
  let v2359 : BitVec 32 := Scalar.addi c0_i32_1344 v2358
  v2359.toNat
def k0_dev27 (d0 : Dev nD) : Nat :=
  let c0_i32_1363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1362 : BitVec 32 := 1#32
  let v2375 : BitVec 32 := Scalar.muli v24 c1_i32_1362
  let v2376 : BitVec 32 := Scalar.addi c0_i32_1363 v2375
  v2376.toNat
def k0_dev28 (d0 : Dev nD) : Nat :=
  let c0_i32_1382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1381 : BitVec 32 := 1#32
  let v2392 : BitVec 32 := Scalar.muli v13 c1_i32_1381
  let v2393 : BitVec 32 := Scalar.addi c0_i32_1382 v2392
  v2393.toNat
def k0_dev29 (d0 : Dev nD) : Nat :=
  let c0_i32_1401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1400 : BitVec 32 := 1#32
  let v2409 : BitVec 32 := Scalar.muli v24 c1_i32_1400
  let v2410 : BitVec 32 := Scalar.addi c0_i32_1401 v2409
  v2410.toNat
def k0_dev30 (d0 : Dev nD) : Nat :=
  let c0_i32_1420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1419 : BitVec 32 := 1#32
  let v2426 : BitVec 32 := Scalar.muli v13 c1_i32_1419
  let v2427 : BitVec 32 := Scalar.addi c0_i32_1420 v2426
  v2427.toNat
def k0_dev31 (d0 : Dev nD) : Nat :=
  let c0_i32_1438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1437 : BitVec 32 := 1#32
  let v2443 : BitVec 32 := Scalar.muli v24 c1_i32_1437
  let v2444 : BitVec 32 := Scalar.addi c0_i32_1438 v2443
  v2444.toNat
def k0_dev32 (d0 : Dev nD) : Nat :=
  let c0_i32_1457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1456 : BitVec 32 := 1#32
  let v2460 : BitVec 32 := Scalar.muli v13 c1_i32_1456
  let v2461 : BitVec 32 := Scalar.addi c0_i32_1457 v2460
  v2461.toNat
def k0_off15 (d0 : Dev nD) (c1_i32_1465 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2473 : BitVec 32 := Scalar.subi v2 c1_i32_1465
  let c1_i32_1466 : BitVec 32 := 1#32
  let v2474 : BitVec 32 := Scalar.addi v2473 c1_i32_1466
  let c8_i32_1467 : BitVec 32 := 8#32
  let c0_i32_1468 : BitVec 32 := 0#32
  let v2475 : BitVec 1 := Scalar.cmpi .eq c8_i32_1467 c0_i32_1468
  let c1_i32_1469 : BitVec 32 := 1#32
  let v2476 : BitVec 32 := Scalar.select v2475 c1_i32_1469 c8_i32_1467
  let v2477 : BitVec 32 := Scalar.remsi v2474 v2476
  let c0_i32_1471 : BitVec 32 := 0#32
  let v2479 : BitVec 1 := Scalar.cmpi .slt v2477 c0_i32_1471
  let c0_i32_1472 : BitVec 32 := 0#32
  let v2480 : BitVec 1 := Scalar.cmpi .slt v2476 c0_i32_1472
  let v2481 : BitVec 1 := Scalar.xori v2479 v2480
  let c0_i32_1470 : BitVec 32 := 0#32
  let v2478 : BitVec 1 := Scalar.cmpi .ne v2477 c0_i32_1470
  let v2482 : BitVec 1 := Scalar.andi v2481 v2478
  let v2483 : BitVec 32 := Scalar.addi v2477 v2476
  let v2484 : BitVec 32 := Scalar.select v2482 v2483 v2477
  let c256_i32_1473 : BitVec 32 := 256#32
  let v2485 : BitVec 32 := Scalar.muli v2484 c256_i32_1473
  let v2486 : Index := Scalar.indexCast v2485
  let c0_1474 : Index := 0#32
  ![v2486.toNat, 0]
def k0_off16 (d0 : Dev nD) (c1_i32_1478 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2491 : BitVec 32 := Scalar.addi v2 c1_i32_1478
  let c1_i32_1479 : BitVec 32 := 1#32
  let v2492 : BitVec 32 := Scalar.subi v2491 c1_i32_1479
  let c8_i32_1480 : BitVec 32 := 8#32
  let c0_i32_1481 : BitVec 32 := 0#32
  let v2493 : BitVec 1 := Scalar.cmpi .eq c8_i32_1480 c0_i32_1481
  let c1_i32_1482 : BitVec 32 := 1#32
  let v2494 : BitVec 32 := Scalar.select v2493 c1_i32_1482 c8_i32_1480
  let v2495 : BitVec 32 := Scalar.remsi v2492 v2494
  let c0_i32_1484 : BitVec 32 := 0#32
  let v2497 : BitVec 1 := Scalar.cmpi .slt v2495 c0_i32_1484
  let c0_i32_1485 : BitVec 32 := 0#32
  let v2498 : BitVec 1 := Scalar.cmpi .slt v2494 c0_i32_1485
  let v2499 : BitVec 1 := Scalar.xori v2497 v2498
  let c0_i32_1483 : BitVec 32 := 0#32
  let v2496 : BitVec 1 := Scalar.cmpi .ne v2495 c0_i32_1483
  let v2500 : BitVec 1 := Scalar.andi v2499 v2496
  let v2501 : BitVec 32 := Scalar.addi v2495 v2494
  let v2502 : BitVec 32 := Scalar.select v2500 v2501 v2495
  let c256_i32_1486 : BitVec 32 := 256#32
  let v2503 : BitVec 32 := Scalar.muli v2502 c256_i32_1486
  let v2504 : Index := Scalar.indexCast v2503
  let c512_1487 : Index := 512#32
  ![v2504.toNat, 512]
def k0_dev33 (d0 : Dev nD) : Nat :=
  let c0_i32_1503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1502 : BitVec 32 := 1#32
  let v2514 : BitVec 32 := Scalar.muli v24 c1_i32_1502
  let v2515 : BitVec 32 := Scalar.addi c0_i32_1503 v2514
  v2515.toNat
def k0_dev34 (d0 : Dev nD) : Nat :=
  let c0_i32_1523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1522 : BitVec 32 := 1#32
  let v2532 : BitVec 32 := Scalar.muli v13 c1_i32_1522
  let v2533 : BitVec 32 := Scalar.addi c0_i32_1523 v2532
  v2533.toNat
def k0_dev35 (d0 : Dev nD) : Nat :=
  let c0_i32_1542 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1541 : BitVec 32 := 1#32
  let v2550 : BitVec 32 := Scalar.muli v24 c1_i32_1541
  let v2551 : BitVec 32 := Scalar.addi c0_i32_1542 v2550
  v2551.toNat
def k0_dev36 (d0 : Dev nD) : Nat :=
  let c0_i32_1562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1561 : BitVec 32 := 1#32
  let v2568 : BitVec 32 := Scalar.muli v13 c1_i32_1561
  let v2569 : BitVec 32 := Scalar.addi c0_i32_1562 v2568
  v2569.toNat
def k0_dev37 (d0 : Dev nD) : Nat :=
  let c0_i32_1581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1580 : BitVec 32 := 1#32
  let v2586 : BitVec 32 := Scalar.muli v24 c1_i32_1580
  let v2587 : BitVec 32 := Scalar.addi c0_i32_1581 v2586
  v2587.toNat
def k0_dev38 (d0 : Dev nD) : Nat :=
  let c0_i32_1601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1600 : BitVec 32 := 1#32
  let v2604 : BitVec 32 := Scalar.muli v13 c1_i32_1600
  let v2605 : BitVec 32 := Scalar.addi c0_i32_1601 v2604
  v2605.toNat
def k0_dev39 (d0 : Dev nD) : Nat :=
  let c0_i32_1620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1619 : BitVec 32 := 1#32
  let v2622 : BitVec 32 := Scalar.muli v24 c1_i32_1619
  let v2623 : BitVec 32 := Scalar.addi c0_i32_1620 v2622
  v2623.toNat
def k0_dev40 (d0 : Dev nD) : Nat :=
  let c0_i32_1640 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1639 : BitVec 32 := 1#32
  let v2640 : BitVec 32 := Scalar.muli v13 c1_i32_1639
  let v2641 : BitVec 32 := Scalar.addi c0_i32_1640 v2640
  v2641.toNat
def k0_dev41 (d0 : Dev nD) : Nat :=
  let c0_i32_1685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1684 : BitVec 32 := 1#32
  let v2694 : BitVec 32 := Scalar.muli v24 c1_i32_1684
  let v2695 : BitVec 32 := Scalar.addi c0_i32_1685 v2694
  v2695.toNat
def k0_dev42 (d0 : Dev nD) : Nat :=
  let c0_i32_1705 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1704 : BitVec 32 := 1#32
  let v2712 : BitVec 32 := Scalar.muli v13 c1_i32_1704
  let v2713 : BitVec 32 := Scalar.addi c0_i32_1705 v2712
  v2713.toNat
def k0_dev43 (d0 : Dev nD) : Nat :=
  let c0_i32_1724 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1723 : BitVec 32 := 1#32
  let v2730 : BitVec 32 := Scalar.muli v24 c1_i32_1723
  let v2731 : BitVec 32 := Scalar.addi c0_i32_1724 v2730
  v2731.toNat
def k0_dev44 (d0 : Dev nD) : Nat :=
  let c0_i32_1744 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1743 : BitVec 32 := 1#32
  let v2748 : BitVec 32 := Scalar.muli v13 c1_i32_1743
  let v2749 : BitVec 32 := Scalar.addi c0_i32_1744 v2748
  v2749.toNat
def k0_dev45 (d0 : Dev nD) : Nat :=
  let c0_i32_1763 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1762 : BitVec 32 := 1#32
  let v2766 : BitVec 32 := Scalar.muli v24 c1_i32_1762
  let v2767 : BitVec 32 := Scalar.addi c0_i32_1763 v2766
  v2767.toNat
def k0_dev46 (d0 : Dev nD) : Nat :=
  let c0_i32_1783 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1782 : BitVec 32 := 1#32
  let v2784 : BitVec 32 := Scalar.muli v13 c1_i32_1782
  let v2785 : BitVec 32 := Scalar.addi c0_i32_1783 v2784
  v2785.toNat
def k0_dev47 (d0 : Dev nD) : Nat :=
  let c0_i32_1802 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1801 : BitVec 32 := 1#32
  let v2802 : BitVec 32 := Scalar.muli v24 c1_i32_1801
  let v2803 : BitVec 32 := Scalar.addi c0_i32_1802 v2802
  v2803.toNat
def k0_dev48 (d0 : Dev nD) : Nat :=
  let c0_i32_1822 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1821 : BitVec 32 := 1#32
  let v2820 : BitVec 32 := Scalar.muli v13 c1_i32_1821
  let v2821 : BitVec 32 := Scalar.addi c0_i32_1822 v2820
  v2821.toNat
def k0_dev49 (d0 : Dev nD) : Nat :=
  let c0_i32_1867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1866 : BitVec 32 := 1#32
  let v2874 : BitVec 32 := Scalar.muli v24 c1_i32_1866
  let v2875 : BitVec 32 := Scalar.addi c0_i32_1867 v2874
  v2875.toNat
def k0_dev50 (d0 : Dev nD) : Nat :=
  let c0_i32_1887 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1886 : BitVec 32 := 1#32
  let v2892 : BitVec 32 := Scalar.muli v13 c1_i32_1886
  let v2893 : BitVec 32 := Scalar.addi c0_i32_1887 v2892
  v2893.toNat
def k0_dev51 (d0 : Dev nD) : Nat :=
  let c0_i32_1906 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1905 : BitVec 32 := 1#32
  let v2910 : BitVec 32 := Scalar.muli v24 c1_i32_1905
  let v2911 : BitVec 32 := Scalar.addi c0_i32_1906 v2910
  v2911.toNat
def k0_dev52 (d0 : Dev nD) : Nat :=
  let c0_i32_1926 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1925 : BitVec 32 := 1#32
  let v2928 : BitVec 32 := Scalar.muli v13 c1_i32_1925
  let v2929 : BitVec 32 := Scalar.addi c0_i32_1926 v2928
  v2929.toNat
def k0_dev53 (d0 : Dev nD) : Nat :=
  let c0_i32_1945 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1944 : BitVec 32 := 1#32
  let v2946 : BitVec 32 := Scalar.muli v24 c1_i32_1944
  let v2947 : BitVec 32 := Scalar.addi c0_i32_1945 v2946
  v2947.toNat
def k0_dev54 (d0 : Dev nD) : Nat :=
  let c0_i32_1965 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1964 : BitVec 32 := 1#32
  let v2964 : BitVec 32 := Scalar.muli v13 c1_i32_1964
  let v2965 : BitVec 32 := Scalar.addi c0_i32_1965 v2964
  v2965.toNat
def k0_dev55 (d0 : Dev nD) : Nat :=
  let c0_i32_1984 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1983 : BitVec 32 := 1#32
  let v2982 : BitVec 32 := Scalar.muli v24 c1_i32_1983
  let v2983 : BitVec 32 := Scalar.addi c0_i32_1984 v2982
  v2983.toNat
def k0_dev56 (d0 : Dev nD) : Nat :=
  let c0_i32_2004 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2003 : BitVec 32 := 1#32
  let v3000 : BitVec 32 := Scalar.muli v13 c1_i32_2003
  let v3001 : BitVec 32 := Scalar.addi c0_i32_2004 v3000
  v3001.toNat
def k0_dev57 (d0 : Dev nD) : Nat :=
  let c0_i32_2049 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2048 : BitVec 32 := 1#32
  let v3054 : BitVec 32 := Scalar.muli v24 c1_i32_2048
  let v3055 : BitVec 32 := Scalar.addi c0_i32_2049 v3054
  v3055.toNat
def k0_dev58 (d0 : Dev nD) : Nat :=
  let c0_i32_2069 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2068 : BitVec 32 := 1#32
  let v3072 : BitVec 32 := Scalar.muli v13 c1_i32_2068
  let v3073 : BitVec 32 := Scalar.addi c0_i32_2069 v3072
  v3073.toNat
def k0_dev59 (d0 : Dev nD) : Nat :=
  let c0_i32_2088 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2087 : BitVec 32 := 1#32
  let v3090 : BitVec 32 := Scalar.muli v24 c1_i32_2087
  let v3091 : BitVec 32 := Scalar.addi c0_i32_2088 v3090
  v3091.toNat
def k0_dev60 (d0 : Dev nD) : Nat :=
  let c0_i32_2108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2107 : BitVec 32 := 1#32
  let v3108 : BitVec 32 := Scalar.muli v13 c1_i32_2107
  let v3109 : BitVec 32 := Scalar.addi c0_i32_2108 v3108
  v3109.toNat
def k0_dev61 (d0 : Dev nD) : Nat :=
  let c0_i32_2127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2126 : BitVec 32 := 1#32
  let v3126 : BitVec 32 := Scalar.muli v24 c1_i32_2126
  let v3127 : BitVec 32 := Scalar.addi c0_i32_2127 v3126
  v3127.toNat
def k0_dev62 (d0 : Dev nD) : Nat :=
  let c0_i32_2147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2146 : BitVec 32 := 1#32
  let v3144 : BitVec 32 := Scalar.muli v13 c1_i32_2146
  let v3145 : BitVec 32 := Scalar.addi c0_i32_2147 v3144
  v3145.toNat
def k0_dev63 (d0 : Dev nD) : Nat :=
  let c0_i32_2166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2165 : BitVec 32 := 1#32
  let v3162 : BitVec 32 := Scalar.muli v24 c1_i32_2165
  let v3163 : BitVec 32 := Scalar.addi c0_i32_2166 v3162
  v3163.toNat
def k0_dev64 (d0 : Dev nD) : Nat :=
  let c0_i32_2186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2185 : BitVec 32 := 1#32
  let v3180 : BitVec 32 := Scalar.muli v13 c1_i32_2185
  let v3181 : BitVec 32 := Scalar.addi c0_i32_2186 v3180
  v3181.toNat
def k0_dev65 (d0 : Dev nD) : Nat :=
  let c0_i32_2231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2230 : BitVec 32 := 1#32
  let v3234 : BitVec 32 := Scalar.muli v24 c1_i32_2230
  let v3235 : BitVec 32 := Scalar.addi c0_i32_2231 v3234
  v3235.toNat
def k0_dev66 (d0 : Dev nD) : Nat :=
  let c0_i32_2251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2250 : BitVec 32 := 1#32
  let v3252 : BitVec 32 := Scalar.muli v13 c1_i32_2250
  let v3253 : BitVec 32 := Scalar.addi c0_i32_2251 v3252
  v3253.toNat
def k0_dev67 (d0 : Dev nD) : Nat :=
  let c0_i32_2270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2269 : BitVec 32 := 1#32
  let v3270 : BitVec 32 := Scalar.muli v24 c1_i32_2269
  let v3271 : BitVec 32 := Scalar.addi c0_i32_2270 v3270
  v3271.toNat
def k0_dev68 (d0 : Dev nD) : Nat :=
  let c0_i32_2290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2289 : BitVec 32 := 1#32
  let v3288 : BitVec 32 := Scalar.muli v13 c1_i32_2289
  let v3289 : BitVec 32 := Scalar.addi c0_i32_2290 v3288
  v3289.toNat
def k0_dev69 (d0 : Dev nD) : Nat :=
  let c0_i32_2309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2308 : BitVec 32 := 1#32
  let v3306 : BitVec 32 := Scalar.muli v24 c1_i32_2308
  let v3307 : BitVec 32 := Scalar.addi c0_i32_2309 v3306
  v3307.toNat
def k0_dev70 (d0 : Dev nD) : Nat :=
  let c0_i32_2329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2328 : BitVec 32 := 1#32
  let v3324 : BitVec 32 := Scalar.muli v13 c1_i32_2328
  let v3325 : BitVec 32 := Scalar.addi c0_i32_2329 v3324
  v3325.toNat
def k0_dev71 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2347 : BitVec 32 := 1#32
  let v3342 : BitVec 32 := Scalar.muli v24 c1_i32_2347
  let v3343 : BitVec 32 := Scalar.addi c0_i32_2348 v3342
  v3343.toNat
def k0_dev72 (d0 : Dev nD) : Nat :=
  let c0_i32_2368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2367 : BitVec 32 := 1#32
  let v3360 : BitVec 32 := Scalar.muli v13 c1_i32_2367
  let v3361 : BitVec 32 := Scalar.addi c0_i32_2368 v3360
  v3361.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x2 : Shape := ⟨2, ![2048, 2]⟩
abbrev S64x512x1024 : Shape := ⟨3, ![64, 512, 1024]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S64 : Shape := ⟨1, ![64]⟩
abbrev S1x64 : Shape := ⟨2, ![1, 64]⟩
abbrev S2048x64x1024 : Shape := ⟨3, ![2048, 64, 1024]⟩
abbrev S2048x64x1 : Shape := ⟨3, ![2048, 64, 1]⟩
abbrev S2048x1024 : Shape := ⟨2, ![2048, 1024]⟩

abbrev nBuf : Space → Nat
  | .hbm => 70
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x2, .i32⟩
  | .hbm, ⟨3, _⟩ => ⟨S64x512x1024, .bf16⟩
  | .hbm, ⟨4, _⟩ => ⟨S2048x512, .f32⟩
  | .hbm, ⟨5, _⟩ => ⟨S512x64, .f32⟩
  | .hbm, ⟨6, _⟩ => ⟨S2048x64, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x64, .f32⟩
  | .hbm, ⟨11, _⟩ => ⟨S2048x64, .f32⟩
  | .hbm, ⟨12, _⟩ => ⟨S2048x64, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x64, .f32⟩
  | .hbm, ⟨17, _⟩ => ⟨S2048x64, .f32⟩
  | .hbm, ⟨18, _⟩ => ⟨S2048x1, .i32⟩
  | .hbm, ⟨19, _⟩ => ⟨S64, .i32⟩
  | .hbm, ⟨20, _⟩ => ⟨S1x64, .i32⟩
  | .hbm, ⟨21, _⟩ => ⟨S2048x64, .i32⟩
  | .hbm, ⟨22, _⟩ => ⟨S2048x64, .i32⟩
  | .hbm, ⟨23, _⟩ => ⟨S2048x64, .i1⟩
  | .hbm, ⟨24, _⟩ => ⟨S2048x1, .i32⟩
  | .hbm, ⟨25, _⟩ => ⟨S64, .i32⟩
  | .hbm, ⟨26, _⟩ => ⟨S1x64, .i32⟩
  | .hbm, ⟨27, _⟩ => ⟨S2048x64, .i32⟩
  | .hbm, ⟨28, _⟩ => ⟨S2048x64, .i32⟩
  | .hbm, ⟨29, _⟩ => ⟨S2048x64, .i1⟩
  | .hbm, ⟨30, _⟩ => ⟨S_, .f32⟩
  | .hbm, ⟨31, _⟩ => ⟨S_, .f32⟩
  | .hbm, ⟨32, _⟩ => ⟨S2048x64, .f32⟩
  | .hbm, ⟨33, _⟩ => ⟨S2048x64, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S_, .f32⟩
  | .hbm, ⟨38, _⟩ => ⟨S_, .f32⟩
  | .hbm, ⟨39, _⟩ => ⟨S2048x64, .f32⟩
  | .hbm, ⟨40, _⟩ => ⟨S2048x64, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x1, .f32⟩
  | .hbm, ⟨45, _⟩ => ⟨S64x512x1024, .f32⟩
  | .hbm, ⟨46, _⟩ => ⟨S2048x64x1024, .f32⟩
  | .hbm, ⟨47, _⟩ => ⟨S2048x64x1, .i1⟩
  | .hbm, ⟨48, _⟩ => ⟨S_, .f32⟩
  | .hbm, ⟨49, _⟩ => ⟨S_, .f32⟩
  | .hbm, ⟨50, _⟩ => ⟨S2048x64x1024, .i1⟩
  | .hbm, ⟨51, _⟩ => ⟨S2048x64x1024, .f32⟩
  | .hbm, ⟨52, _⟩ => ⟨S2048x64x1024, .f32⟩
  | .hbm, ⟨53, _⟩ => ⟨S_, .f32⟩
  | .hbm, ⟨54, _⟩ => ⟨S2048x1024, .f32⟩
  | .hbm, ⟨55, _⟩ => ⟨S2048x64x1, .i1⟩
  | .hbm, ⟨56, _⟩ => ⟨S_, .f32⟩
  | .hbm, ⟨57, _⟩ => ⟨S_, .f32⟩
  | .hbm, ⟨58, _⟩ => ⟨S2048x64x1024, .i1⟩
  | .hbm, ⟨59, _⟩ => ⟨S2048x64x1024, .f32⟩
  | .hbm, ⟨60, _⟩ => ⟨S2048x64x1024, .f32⟩
  | .hbm, ⟨61, _⟩ => ⟨S_, .f32⟩
  | .hbm, ⟨62, _⟩ => ⟨S2048x1024, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S2048x1024, .f32⟩
  | .hbm, ⟨68, _⟩ => ⟨S2048x1024, .f32⟩
  | .hbm, ⟨69, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Proof.Prog.lean ====
/- The kernel's body written as a sequence of a few repeated pieces — half a chunk's partial product, the staging and
   sending of one reduce-scatter step, the arrival of one, the hops of the all-gather — each with what follows it as its
   last argument. `body_eq` states that this is the printed body. -/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Moe

open Idealize.ShloMosaic Idealize.ShloMosaic.TcCoe
open Idealize.SL.Sem
open Cert.KernelIdeal.Gen

variable {F : FTy → Type} [FloatOps F]

/-- A program of the kernel's thread. -/
abbrev Prg (F : FTy → Type) [FloatOps F] := Prog (TpuEff nD τ sig (Elt F) Λ₀ .tc) PUnit

/-! ## Buffers and semaphores

A direction is a `Bool`: `false` sends to the next device, `true` to the previous one. -/

abbrev xM : Memref sig .tc .vmem S2048x512 .bf16 := Memref.whole cc0_stg0_0
abbrev rM : Memref sig .tc .vmem S512x64 .bf16 := Memref.whole cc0_stg1_0
abbrev iM : Memref sig .tc .vmem S2048x2 .i32 := Memref.whole cc0_stg2_0
abbrev eM : Memref sig .tc .vmem S8x512x1024 .bf16 := Memref.whole cc0_stg3_0
abbrev oM : Memref sig .tc .vmem S2048x1024 .f32 := Memref.whole cc0_stg4_0
abbrev wM : Memref sig .tc .vmem S2048x8 .bf16 := Memref.whole cc0_scratch0
abbrev bM : Memref sig .tc .vmem S2048x512 .bf16 := Memref.whole cc0_scratch1
abbrev pM : Memref sig .tc .vmem S256x4096 .bf16 := Memref.whole cc0_scratch2
/-- Where the reduce-scatter's chunks arrive. -/
def rsM : Bool → Memref sig .tc .vmem S7x256x512 .bf16
  | false => Memref.whole cc0_scratch3
  | true => Memref.whole cc0_scratch4
/-- Where the all-gather's chunks arrive. -/
def agM : Bool → Memref sig .tc .vmem S7x256x512 .bf16
  | false => Memref.whole cc0_scratch5
  | true => Memref.whole cc0_scratch6
/-- The finished chunk, rounded. -/
def stM : Bool → Memref sig .tc .vmem S256x512 .bf16
  | false => Memref.whole cc0_scratch7
  | true => Memref.whole cc0_scratch8
/-- What the reduce-scatter sends, a slot to a step. -/
def sgM : Bool → Memref sig .tc .vmem S7x256x512 .bf16
  | false => Memref.whole cc0_scratch9
  | true => Memref.whole cc0_scratch10

theorem rsM_whole (b : Bool) : (rsM b).IsWhole := by cases b <;> exact Memref.isWhole_whole _
theorem agM_whole (b : Bool) : (agM b).IsWhole := by cases b <;> exact Memref.isWhole_whole _
theorem stM_whole (b : Bool) : (stM b).IsWhole := by cases b <;> exact Memref.isWhole_whole _
theorem sgM_whole (b : Bool) : (sgM b).IsWhole := by cases b <;> exact Memref.isWhole_whole _

/-- The number of the first semaphore of a direction's arrays: 14 of the reduce-scatter, -/
def rsBase : Bool → ℕ
  | false => 5
  | true => 19
/-- and 56 of the all-gather. -/
def agBase : Bool → ℕ
  | false => 33
  | true => 89

def rsSend (b : Bool) (s : Fin 7) : DmaSem sig := ⟨rsBase b + s.val, by have := s.isLt; cases b <;> simp only [rsBase] <;> (show _ < 145) <;> omega⟩
def rsRecv (b : Bool) (s : Fin 7) : DmaSem sig := ⟨rsBase b + 7 + s.val, by have := s.isLt; cases b <;> simp only [rsBase] <;> (show _ < 145) <;> omega⟩
def agSend (b : Bool) (t : Fin 7) (p : Fin 4) : DmaSem sig :=
  ⟨agBase b + (4 * t.val + p.val), by have := t.isLt; have := p.isLt; cases b <;> simp only [agBase] <;> (show _ < 145) <;> omega⟩
def agRecv (b : Bool) (t : Fin 7) (p : Fin 4) : DmaSem sig :=
  ⟨agBase b + 28 + (4 * t.val + p.val), by have := t.isLt; have := p.isLt; cases b <;> simp only [agBase] <;> (show _ < 145) <;> omega⟩

/-- The barrier's semaphore. -/
abbrev barS : Sem sig := (SemArray.scalar (d := S_.size) (sig.barrier 0 rfl)).sem

/-! ## Rectangles -/

theorem slot_inb (s : Fin 7) : ∀ a, (![s.val, 0, 0] : Fin 3 → ℕ) a + S1x256x512.size a ≤ S7x256x512.size a := by revert s; decide
theorem piece_inb (t : Fin 7) (p : Fin 4) : ∀ a, (![t.val, 64 * p.val, 0] : Fin 3 → ℕ) a + S1x64x512.size a ≤ S7x256x512.size a := by
  revert t p; decide
theorem row_inb (p : Fin 4) : ∀ a, (![64 * p.val, 0] : Fin 2 → ℕ) a + S64x512.size a ≤ S256x512.size a := by revert p; decide

/-- Slot `s` of seven. -/
abbrev slotR (s : Fin 7) : Rect S7x256x512 := Rect.unit (s := S7x256x512) ![s.val, 0, 0] S1x256x512.size (slot_inb s)
/-- Piece `p` of four of slot `t`. -/
abbrev pieceR (t : Fin 7) (p : Fin 4) : Rect S7x256x512 :=
  Rect.unit (s := S7x256x512) ![t.val, 64 * p.val, 0] S1x64x512.size (piece_inb t p)
/-- Piece `p` of four of a chunk. -/
abbrev rowR (p : Fin 4) : Rect S256x512 := Rect.unit (s := S256x512) ![64 * p.val, 0] S64x512.size (row_inb p)

theorem slot_words (s : Fin 7) : (slotR s).WholeWords (EltTy.packing .bf16) := by revert s; decide
theorem slot_packed (s : Fin 7) : (slotR s).PackedRows (EltTy.packing .bf16) := by revert s; decide
theorem piece_words (t : Fin 7) (p : Fin 4) : (pieceR t p).WholeWords (EltTy.packing .bf16) := by revert t p; decide
theorem row_words (p : Fin 4) : (rowR p).WholeWords (EltTy.packing .bf16) := by revert p; decide

/-- Slot `s` of a buffer of seven, as a chunk. -/
abbrev slotM (m : Memref sig .tc .vmem S7x256x512 .bf16) (s : Fin 7) : Memref sig .tc .vmem S256x512 .bf16 :=
  (m.slice (slotR s) (fun _ => rfl)).squeeze S256x512 squeezes_S1x256x512_S256x512
/-- Piece `p` of slot `t` of a buffer of seven. -/
abbrev pieceM (m : Memref sig .tc .vmem S7x256x512 .bf16) (t : Fin 7) (p : Fin 4) : Memref sig .tc .vmem S64x512 .bf16 :=
  (m.slice (pieceR t p) (fun _ => rfl)).squeeze S64x512 squeezes_S1x64x512_S64x512
/-- Piece `p` of a chunk's buffer. -/
abbrev rowM (m : Memref sig .tc .vmem S256x512 .bf16) (p : Fin 4) : Memref sig .tc .vmem S64x512 .bf16 :=
  m.slice (rowR p) (fun _ => rfl)

theorem slotM_exact {m : Memref sig .tc .vmem S7x256x512 .bf16} (h : m.IsWhole) (s : Fin 7) : (slotM m s).view.WordExact :=
  (h.wordExact_slice rfl _ (slot_words s)).reshape _ _
theorem pieceM_exact {m : Memref sig .tc .vmem S7x256x512 .bf16} (h : m.IsWhole) (t : Fin 7) (p : Fin 4) :
    (pieceM m t p).view.WordExact :=
  (h.wordExact_slice rfl _ (piece_words t p)).reshape _ _
theorem rowM_exact {m : Memref sig .tc .vmem S256x512 .bf16} (h : m.IsWhole) (p : Fin 4) : (rowM m p).view.WordExact :=
  h.wordExact_slice rfl _ (row_words p)

/-- A tile of the scaled rows. -/
abbrev pR (x : Fin 8) : Rect S256x4096 :=
  Rect.unit (s := S256x4096) ![0, 512 * x.val] S256x512.size (by revert x; decide)
theorem pR_packed (x : Fin 8) : (pR x).PackedRows (EltTy.packing .bf16) := by revert x; decide

/-! ## The pieces -/

/-- Write tile `x` of the scaled rows. -/
def putTile (x : Fin 8) (v : Vec F S256x512 .bf16) (k : Prg F) : Prg F :=
  .op (.load pM (pR x).toLoadRect (View.loadsAt_vmem h_S256x512)) fun _ =>
  .op (.store pM (pR x) v Finset.univ (View.stores_vmem h_S256x512 ((Memref.isWhole_whole _).storeExact_slice rfl _ (pR_packed x)) (fun _ => rfl)) (.inl rfl)) fun _ => k

/-- The scaled rows' payload for local expert `x`. -/
def scaled (v86 : Vec F S256x512 .bf16) (v88 : Vec F S256x8 .bf16) : Fin 8 → Vec F S256x512 .bf16
  | 0 => k0_pay5 v86 v88
  | 1 => k0_pay6 v86 v88
  | 2 => k0_pay7 v86 v88
  | 3 => k0_pay9 (k0_pay8 v86 v88)
  | 4 => k0_pay10 v86 v88
  | 5 => k0_pay11 v86 v88
  | 6 => k0_pay12 v86 v88
  | 7 => k0_pay13 v86 v88

/-- One half (512 columns) of one chunk (256 rows) of the partial product. -/
def half (ox : Fin 2 → ℕ) (hx : ∀ a, ox a + S256x512.size a ≤ S2048x512.size a)
    (ow : Fin 2 → ℕ) (hw : ∀ a, ow a + S256x8.size a ≤ S2048x8.size a)
    (lo : Fin 3 → ℕ) (hlo : ∀ a, lo a + S8x512x512.size a ≤ S8x512x1024.size a)
    (oo : Fin 2 → ℕ) (ho : ∀ a, oo a + S256x512.size a ≤ S2048x1024.size a) (k : Prg F) : Prg F :=
  .op (.load bM (Rect.unit (s := S2048x512) ox S256x512.size hx).toLoadRect (View.loadsAt_vmem h_S256x512)) fun v86 =>
  .op (.load wM (Rect.unit (s := S2048x8) ow S256x8.size hw).toLoadRect (View.loadsAt_vmem h_S256x8)) fun v88 =>
  putTile 0 (scaled v86 v88 0) <| putTile 1 (scaled v86 v88 1) <| putTile 2 (scaled v86 v88 2) <| putTile 3 (scaled v86 v88 3) <|
  putTile 4 (scaled v86 v88 4) <| putTile 5 (scaled v86 v88 5) <| putTile 6 (scaled v86 v88 6) <| putTile 7 (scaled v86 v88 7) <|
  .op (.load pM (Rect.unit (s := S256x4096) ![0, 0] S256x4096.size inb_S256x4096_S256x4096_0_0).toLoadRect (View.loadsAt_vmem h_S256x4096)) fun v153 =>
  .op (.load eM (Rect.unit (s := S8x512x1024) lo S8x512x512.size hlo).toLoadRect (View.loadsAt_vmem h_S8x512x512)) fun v154 =>
  .op (.load oM (Rect.unit (s := S2048x1024) oo S256x512.size ho).toLoadRect (View.loadsAt_vmem h_S256x512)) fun _ =>
  .op (.store oM (Rect.unit (s := S2048x1024) oo S256x512.size ho) (k0_pay14 v153 v154) Finset.univ (View.stores_vmem_bits_univ h_S256x512 rfl) (.inl rfl)) fun _ => k

/-- Read a tile of the running sums, round it and stage it in slot `s`. -/
def stage (b : Bool) (s : Fin 7) (oo : Fin 2 → ℕ) (ho : ∀ a, oo a + S256x512.size a ≤ S2048x1024.size a) (k : Prg F) : Prg F :=
  .op (.load oM (Rect.unit (s := S2048x1024) oo S256x512.size ho).toLoadRect (View.loadsAt_vmem h_S256x512)) fun v =>
  .op (.load (sgM b) (slotR s).toLoadRect (View.loadsAt_vmem h_S1x256x512)) fun _ =>
  .op (.store (sgM b) (slotR s) (k0_pay25 v) Finset.univ (View.stores_vmem h_S1x256x512 ((sgM_whole b).storeExact_slice rfl _ (slot_packed s)) (fun _ => rfl)) (.inl rfl)) fun _ => k

/-- Send the staged slot `s` to device `q`. -/
def sendRs (b : Bool) (s : Fin 7) (q : Dev nD) (k : Prg F) : Prg F :=
  .op (.enqueueDma (slotM (sgM b) s) (.remote (Dev.tc q) (slotM (rsM b) s) (.dma (rsSend b s))) (.dma (rsRecv b s))
    (slotM_exact (sgM_whole b) s) (slotM_exact (rsM_whole b) s) ⟨⟨rfl, Or.inl rfl⟩, trivial⟩) fun _ => k

/-- Wait for slot `s` and add it to a tile of the running sums. -/
def recvRs (b : Bool) (s : Fin 7) (oo : Fin 2 → ℕ) (ho : ∀ a, oo a + S256x512.size a ≤ S2048x1024.size a) (k : Prg F) : Prg F :=
  .op (.waitDma2 (rsRecv b s) (slotM (sgM b) s) (slotM (rsM b) s) (slotM_exact (sgM_whole b) s) (slotM_exact (rsM_whole b) s)) fun _ =>
  .op (.load oM (Rect.unit (s := S2048x1024) oo S256x512.size ho).toLoadRect (View.loadsAt_vmem h_S256x512)) fun v =>
  .op (.load (rsM b) (slotR s).toLoadRect (View.loadsAt_vmem h_S1x256x512)) fun w =>
  .op (.load oM (Rect.unit (s := S2048x1024) oo S256x512.size ho).toLoadRect (View.loadsAt_vmem h_S256x512)) fun _ =>
  .op (.store oM (Rect.unit (s := S2048x1024) oo S256x512.size ho) (k0_pay48 v w) Finset.univ (View.stores_vmem_bits_univ h_S256x512 rfl) (.inl rfl)) fun _ => k

/-- Wait for the end of the sending of slot `s`. -/
def sentRs (b : Bool) (s : Fin 7) (k : Prg F) : Prg F :=
  .op (.waitDma2 (rsSend b s) (slotM (rsM b) s) (slotM (sgM b) s) (slotM_exact (rsM_whole b) s) (slotM_exact (sgM_whole b) s)) fun _ => k

/-- Round the finished chunk. -/
def finish (b : Bool) (oo : Fin 2 → ℕ) (ho : ∀ a, oo a + S256x512.size a ≤ S2048x1024.size a) (k : Prg F) : Prg F :=
  .op (.load oM (Rect.unit (s := S2048x1024) oo S256x512.size ho).toLoadRect (View.loadsAt_vmem h_S256x512)) fun v =>
  .op (.load (stM b) (Rect.unit (s := S256x512) ![0, 0] S256x512.size inb_S256x512_S256x512_0_0).toLoadRect (View.loadsAt_vmem h_S256x512)) fun _ =>
  .op (.store (stM b) (Rect.unit (s := S256x512) ![0, 0] S256x512.size inb_S256x512_S256x512_0_0) (k0_pay207 v) Finset.univ (View.stores_vmem h_S256x512 ((stM_whole b).storeExact_slice rfl _ packedbf16_S256x512_S256x512_0_0) (fun _ => rfl)) (.inl rfl)) fun _ => k

/-- Send piece `p` of the finished chunk to device `q`, into its slot 0. -/
def sendFst (b : Bool) (p : Fin 4) (q : Dev nD) (k : Prg F) : Prg F :=
  .op (.enqueueDma (rowM (stM b) p) (.remote (Dev.tc q) (pieceM (agM b) 0 p) (.dma (agSend b 0 p))) (.dma (agRecv b 0 p))
    (rowM_exact (stM_whole b) p) (pieceM_exact (agM_whole b) 0 p) ⟨⟨rfl, Or.inl rfl⟩, trivial⟩) fun _ => k

/-- Wait for piece `p` of slot `t`. -/
def recvAg (b : Bool) (t : Fin 7) (p : Fin 4) (k : Prg F) : Prg F :=
  .op (.waitDma2 (agRecv b t p) (pieceM (agM b) t p) (pieceM (agM b) t p) (pieceM_exact (agM_whole b) t p) (pieceM_exact (agM_whole b) t p)) fun _ => k

/-- Pass piece `p` of slot `t` on, into slot `t + 1` of device `q`. -/
def sendAg (b : Bool) (t : Fin 6) (p : Fin 4) (q : Dev nD) (k : Prg F) : Prg F :=
  .op (.enqueueDma (pieceM (agM b) t.castSucc p) (.remote (Dev.tc q) (pieceM (agM b) t.succ p) (.dma (agSend b t.succ p))) (.dma (agRecv b t.succ p))
    (pieceM_exact (agM_whole b) t.castSucc p) (pieceM_exact (agM_whole b) t.succ p) ⟨⟨rfl, Or.inl rfl⟩, trivial⟩) fun _ => k

/-- Write slot `t` to the result. -/
def putAg (b : Bool) (t : Fin 7) (oo : Fin 2 → ℕ) (ho : ∀ a, oo a + S256x512.size a ≤ S2048x1024.size a) (k : Prg F) : Prg F :=
  .op (.load (agM b) (slotR t).toLoadRect (View.loadsAt_vmem h_S1x256x512)) fun w =>
  .op (.load oM (Rect.unit (s := S2048x1024) oo S256x512.size ho).toLoadRect (View.loadsAt_vmem h_S256x512)) fun _ =>
  .op (.store oM (Rect.unit (s := S2048x1024) oo S256x512.size ho) (k0_pay209 w) Finset.univ (View.stores_vmem_bits_univ h_S256x512 rfl) (.inl rfl)) fun _ => k

/-- Wait for the end of the sending of piece `p` of the finished chunk, -/
def sentFst (b : Bool) (p : Fin 4) (k : Prg F) : Prg F :=
  .op (.waitDma2 (agSend b 0 p) (rowM (stM b) p) (rowM (stM b) p) (rowM_exact (stM_whole b) p) (rowM_exact (stM_whole b) p)) fun _ => k

/-- and of piece `p` of slot `t`. -/
def sentAg (b : Bool) (t : Fin 6) (p : Fin 4) (k : Prg F) : Prg F :=
  .op (.waitDma2 (agSend b t.succ p) (pieceM (agM b) t.castSucc p) (pieceM (agM b) t.castSucc p) (pieceM_exact (agM_whole b) t.castSucc p) (pieceM_exact (agM_whole b) t.castSucc p)) fun _ => k

/-- The device's id as the kernel computes it. -/
abbrev idWord (d : Dev nD) : BitVec 32 := Scalar.remsi (Scalar.divsi (Dev.word d) 1#32) 8#32

/-- Signal both neighbours; write the rounded weights and the rows. -/
def front (d : Dev nD) (k : Prg F) : Prg F :=
  .op (.semSignal (((⟨k0_dev1 d, k0_dev1_lt d⟩ : Dev nD), .tc)) barS (1#32 : BitVec 32).toInt) fun _ =>
  .op (.semSignal (((⟨k0_dev2 d, k0_dev2_lt d⟩ : Dev nD), .tc)) barS (1#32 : BitVec 32).toInt) fun _ =>
  .op (.load xM (Rect.unit (s := S2048x512) ![0, 0] S2048x512.size inb_S2048x512_S2048x512_0_0).toLoadRect (View.loadsAt_vmem h_S2048x512)) fun v30 =>
  .op (.load rM (Rect.unit (s := S512x64) ![0, 0] S512x64.size inb_S512x64_S512x64_0_0).toLoadRect (View.loadsAt_vmem h_S512x64)) fun v32 =>
  .op (.load iM (Rect.unit (s := S2048x2) ![0, 0] S2048x1.size inb_S2048x2_S2048x1_0_0).toLoadRect (View.loadsAt_vmem h_S2048x1)) fun v40 =>
  .op (.load iM (Rect.unit (s := S2048x2) ![0, 1] S2048x1.size inb_S2048x2_S2048x1_0_1).toLoadRect (View.loadsAt_vmem h_S2048x1)) fun v42 =>
  .op (.load wM (Rect.unit (s := S2048x8) ![0, 0] S2048x8.size inb_S2048x8_S2048x8_0_0).toLoadRect (View.loadsAt_vmem h_S2048x8)) fun _ =>
  .op (.store wM (Rect.unit (s := S2048x8) ![0, 0] S2048x8.size inb_S2048x8_S2048x8_0_0) (k0_pay3 (k0_pay2 (idWord d) (k0_pay1 v30) v32 v40 v42)) Finset.univ (View.stores_vmem h_S2048x8 ((Memref.isWhole_whole _).storeExact_slice rfl _ packedbf16_S2048x8_S2048x8_0_0) (fun _ => rfl)) (.inl rfl)) fun _ =>
  .op (.load bM (Rect.unit (s := S2048x512) ![0, 0] S2048x512.size inb_S2048x512_S2048x512_0_0).toLoadRect (View.loadsAt_vmem h_S2048x512)) fun _ =>
  .op (.store bM (Rect.unit (s := S2048x512) ![0, 0] S2048x512.size inb_S2048x512_S2048x512_0_0) (k0_pay4 (k0_pay1 v30)) Finset.univ (View.stores_vmem h_S2048x512 ((Memref.isWhole_whole _).storeExact_slice rfl _ packedbf16_S2048x512_S2048x512_0_0) (fun _ => rfl)) (.inl rfl)) fun _ => k

/-- Wait for both neighbours' signals. -/
def barrier (k : Prg F) : Prg F := .op (.semWait barS (2#32 : BitVec 32).toInt) fun _ => k

/-- One step of the reduce-scatter, both directions. -/
def rsStep (d : Dev nD) (s : Fin 7) (qn qp : Dev nD) (k : Prg F) : Prg F :=
  stage false s (k0_off5 d (BitVec.ofNat 32 s.val)) (k0_off5_inb d s) <|
  stage true s (k0_off6 d (BitVec.ofNat 32 s.val)) (k0_off6_inb d s) <|
  sendRs false s qn <| sendRs true s qp <|
  half (k0_off7 d (BitVec.ofNat 32 s.val)) (k0_off7_inb d s) (k0_off8 d (BitVec.ofNat 32 s.val)) (k0_off8_inb d s)
    ![0, 0, 0] inb_S8x512x1024_S8x512x512_0_0_0 (k0_off9 d (BitVec.ofNat 32 s.val)) (k0_off9_inb d s) <|
  half (k0_off10 d (BitVec.ofNat 32 s.val)) (k0_off10_inb d s) (k0_off11 d (BitVec.ofNat 32 s.val)) (k0_off11_inb d s)
    ![0, 0, 512] inb_S8x512x1024_S8x512x512_0_0_512 (k0_off12 d (BitVec.ofNat 32 s.val)) (k0_off12_inb d s) <|
  recvRs false s (k0_off9 d (BitVec.ofNat 32 s.val)) (k0_off9_inb d s) <|
  recvRs true s (k0_off12 d (BitVec.ofNat 32 s.val)) (k0_off12_inb d s) k

/-- One piece of one hop of the all-gather, both directions. -/
def hop (t : Fin 6) (p : Fin 4) (qn qp : Dev nD) (k : Prg F) : Prg F :=
  recvAg false t.castSucc p <| sendAg false t p qn <| recvAg true t.castSucc p <| sendAg true t p qp k

/-- Write slot `t` of both directions to the result. -/
def putBoth (d : Dev nD) (t : Fin 7) (k : Prg F) : Prg F :=
  putAg false t (k0_off15 d (BitVec.ofNat 32 (1 + t.val))) (k0_off15_inb d t) <|
  putAg true t (k0_off16 d (BitVec.ofNat 32 (1 + t.val))) (k0_off16_inb d t) k

/-- The printed device of the reduce-scatter's step `s`, to the next device, -/
def rsNext (d : Dev nD) : Fin 7 → Dev nD
  | 0 => ⟨k0_dev3 d, k0_dev3_lt d⟩
  | 1 => ⟨k0_dev5 d, k0_dev5_lt d⟩
  | 2 => ⟨k0_dev7 d, k0_dev7_lt d⟩
  | 3 => ⟨k0_dev9 d, k0_dev9_lt d⟩
  | 4 => ⟨k0_dev11 d, k0_dev11_lt d⟩
  | 5 => ⟨k0_dev13 d, k0_dev13_lt d⟩
  | 6 => ⟨k0_dev15 d, k0_dev15_lt d⟩
/-- and to the previous one. -/
def rsPrev (d : Dev nD) : Fin 7 → Dev nD
  | 0 => ⟨k0_dev4 d, k0_dev4_lt d⟩
  | 1 => ⟨k0_dev6 d, k0_dev6_lt d⟩
  | 2 => ⟨k0_dev8 d, k0_dev8_lt d⟩
  | 3 => ⟨k0_dev10 d, k0_dev10_lt d⟩
  | 4 => ⟨k0_dev12 d, k0_dev12_lt d⟩
  | 5 => ⟨k0_dev14 d, k0_dev14_lt d⟩
  | 6 => ⟨k0_dev16 d, k0_dev16_lt d⟩
/-- The printed device of the all-gather's hop `t`, piece `p`, to the next device, -/
def agNext (d : Dev nD) : Fin 7 → Fin 4 → Dev nD
  | 0, 0 => ⟨k0_dev17 d, k0_dev17_lt d⟩
  | 0, 1 => ⟨k0_dev19 d, k0_dev19_lt d⟩
  | 0, 2 => ⟨k0_dev21 d, k0_dev21_lt d⟩
  | 0, 3 => ⟨k0_dev23 d, k0_dev23_lt d⟩
  | 1, 0 => ⟨k0_dev25 d, k0_dev25_lt d⟩
  | 1, 1 => ⟨k0_dev27 d, k0_dev27_lt d⟩
  | 1, 2 => ⟨k0_dev29 d, k0_dev29_lt d⟩
  | 1, 3 => ⟨k0_dev31 d, k0_dev31_lt d⟩
  | 2, 0 => ⟨k0_dev33 d, k0_dev33_lt d⟩
  | 2, 1 => ⟨k0_dev35 d, k0_dev35_lt d⟩
  | 2, 2 => ⟨k0_dev37 d, k0_dev37_lt d⟩
  | 2, 3 => ⟨k0_dev39 d, k0_dev39_lt d⟩
  | 3, 0 => ⟨k0_dev41 d, k0_dev41_lt d⟩
  | 3, 1 => ⟨k0_dev43 d, k0_dev43_lt d⟩
  | 3, 2 => ⟨k0_dev45 d, k0_dev45_lt d⟩
  | 3, 3 => ⟨k0_dev47 d, k0_dev47_lt d⟩
  | 4, 0 => ⟨k0_dev49 d, k0_dev49_lt d⟩
  | 4, 1 => ⟨k0_dev51 d, k0_dev51_lt d⟩
  | 4, 2 => ⟨k0_dev53 d, k0_dev53_lt d⟩
  | 4, 3 => ⟨k0_dev55 d, k0_dev55_lt d⟩
  | 5, 0 => ⟨k0_dev57 d, k0_dev57_lt d⟩
  | 5, 1 => ⟨k0_dev59 d, k0_dev59_lt d⟩
  | 5, 2 => ⟨k0_dev61 d, k0_dev61_lt d⟩
  | 5, 3 => ⟨k0_dev63 d, k0_dev63_lt d⟩
  | 6, 0 => ⟨k0_dev65 d, k0_dev65_lt d⟩
  | 6, 1 => ⟨k0_dev67 d, k0_dev67_lt d⟩
  | 6, 2 => ⟨k0_dev69 d, k0_dev69_lt d⟩
  | 6, 3 => ⟨k0_dev71 d, k0_dev71_lt d⟩
/-- and to the previous one. -/
def agPrev (d : Dev nD) : Fin 7 → Fin 4 → Dev nD
  | 0, 0 => ⟨k0_dev18 d, k0_dev18_lt d⟩
  | 0, 1 => ⟨k0_dev20 d, k0_dev20_lt d⟩
  | 0, 2 => ⟨k0_dev22 d, k0_dev22_lt d⟩
  | 0, 3 => ⟨k0_dev24 d, k0_dev24_lt d⟩
  | 1, 0 => ⟨k0_dev26 d, k0_dev26_lt d⟩
  | 1, 1 => ⟨k0_dev28 d, k0_dev28_lt d⟩
  | 1, 2 => ⟨k0_dev30 d, k0_dev30_lt d⟩
  | 1, 3 => ⟨k0_dev32 d, k0_dev32_lt d⟩
  | 2, 0 => ⟨k0_dev34 d, k0_dev34_lt d⟩
  | 2, 1 => ⟨k0_dev36 d, k0_dev36_lt d⟩
  | 2, 2 => ⟨k0_dev38 d, k0_dev38_lt d⟩
  | 2, 3 => ⟨k0_dev40 d, k0_dev40_lt d⟩
  | 3, 0 => ⟨k0_dev42 d, k0_dev42_lt d⟩
  | 3, 1 => ⟨k0_dev44 d, k0_dev44_lt d⟩
  | 3, 2 => ⟨k0_dev46 d, k0_dev46_lt d⟩
  | 3, 3 => ⟨k0_dev48 d, k0_dev48_lt d⟩
  | 4, 0 => ⟨k0_dev50 d, k0_dev50_lt d⟩
  | 4, 1 => ⟨k0_dev52 d, k0_dev52_lt d⟩
  | 4, 2 => ⟨k0_dev54 d, k0_dev54_lt d⟩
  | 4, 3 => ⟨k0_dev56 d, k0_dev56_lt d⟩
  | 5, 0 => ⟨k0_dev58 d, k0_dev58_lt d⟩
  | 5, 1 => ⟨k0_dev60 d, k0_dev60_lt d⟩
  | 5, 2 => ⟨k0_dev62 d, k0_dev62_lt d⟩
  | 5, 3 => ⟨k0_dev64 d, k0_dev64_lt d⟩
  | 6, 0 => ⟨k0_dev66 d, k0_dev66_lt d⟩
  | 6, 1 => ⟨k0_dev68 d, k0_dev68_lt d⟩
  | 6, 2 => ⟨k0_dev70 d, k0_dev70_lt d⟩
  | 6, 3 => ⟨k0_dev72 d, k0_dev72_lt d⟩

/-- The first hop's sends, piece `p`. -/
def first (d : Dev nD) (p : Fin 4) (k : Prg F) : Prg F := sendFst false p (agNext d 0 p) <| sendFst true p (agPrev d 0 p) k

/-- The reduce-scatter's last part: the sends' ends, and the finished chunks rounded. -/
def middle (d : Dev nD) (k : Prg F) : Prg F :=
  sentRs false 0 <| sentRs true 0 <|
  sentRs false 1 <| sentRs true 1 <|
  sentRs false 2 <| sentRs true 2 <|
  sentRs false 3 <| sentRs true 3 <|
  sentRs false 4 <| sentRs true 4 <|
  sentRs false 5 <| sentRs true 5 <|
  sentRs false 6 <| sentRs true 6 <|
  finish false (k0_off13 d) (k0_off13_inb d) <| finish true (k0_off14 d) (k0_off14_inb d) k

/-- The all-gather's hop `t`: every piece passed on, then the slot written. -/
def agStep (d : Dev nD) (t : Fin 6) (k : Prg F) : Prg F :=
  hop t 0 (agNext d t.succ 0) (agPrev d t.succ 0) <| hop t 1 (agNext d t.succ 1) (agPrev d t.succ 1) <|
  hop t 2 (agNext d t.succ 2) (agPrev d t.succ 2) <| hop t 3 (agNext d t.succ 3) (agPrev d t.succ 3) <|
  putBoth d t.castSucc k

/-- The last arrivals. -/
def last (d : Dev nD) (k : Prg F) : Prg F :=
  recvAg false 6 0 <| recvAg true 6 0 <|
  recvAg false 6 1 <| recvAg true 6 1 <|
  recvAg false 6 2 <| recvAg true 6 2 <|
  recvAg false 6 3 <| recvAg true 6 3 <|
  putBoth d 6 k

/-- The ends of the all-gather's sends. -/
def ends (k : Prg F) : Prg F :=
  sentFst false 0 <| sentFst true 0 <|
  sentFst false 1 <| sentFst true 1 <|
  sentFst false 2 <| sentFst true 2 <|
  sentFst false 3 <| sentFst true 3 <|
  sentAg false 0 0 <| sentAg true 0 0 <|
  sentAg false 0 1 <| sentAg true 0 1 <|
  sentAg false 0 2 <| sentAg true 0 2 <|
  sentAg false 0 3 <| sentAg true 0 3 <|
  sentAg false 1 0 <| sentAg true 1 0 <|
  sentAg false 1 1 <| sentAg true 1 1 <|
  sentAg false 1 2 <| sentAg true 1 2 <|
  sentAg false 1 3 <| sentAg true 1 3 <|
  sentAg false 2 0 <| sentAg true 2 0 <|
  sentAg false 2 1 <| sentAg true 2 1 <|
  sentAg false 2 2 <| sentAg true 2 2 <|
  sentAg false 2 3 <| sentAg true 2 3 <|
  sentAg false 3 0 <| sentAg true 3 0 <|
  sentAg false 3 1 <| sentAg true 3 1 <|
  sentAg false 3 2 <| sentAg true 3 2 <|
  sentAg false 3 3 <| sentAg true 3 3 <|
  sentAg false 4 0 <| sentAg true 4 0 <|
  sentAg false 4 1 <| sentAg true 4 1 <|
  sentAg false 4 2 <| sentAg true 4 2 <|
  sentAg false 4 3 <| sentAg true 4 3 <|
  sentAg false 5 0 <| sentAg true 5 0 <|
  sentAg false 5 1 <| sentAg true 5 1 <|
  sentAg false 5 2 <| sentAg true 5 2 <|
  sentAg false 5 3 <| sentAg true 5 3 <|
  k

/-- The body after the device's id is read. -/
def rest (d : Dev nD) : Prg F :=
  front d <|
  half (k0_off1 d) (k0_off1_inb d) (k0_off2 d) (k0_off2_inb d) ![0, 0, 0] inb_S8x512x1024_S8x512x512_0_0_0 (k0_off3 d) (k0_off3_inb d) <|
  half (k0_off1 d) (k0_off1_inb d) (k0_off2 d) (k0_off2_inb d) ![0, 0, 512] inb_S8x512x1024_S8x512x512_0_0_512 (k0_off4 d) (k0_off4_inb d) <|
  barrier <|
  rsStep d 0 (rsNext d 0) (rsPrev d 0) <|
  rsStep d 1 (rsNext d 1) (rsPrev d 1) <|
  rsStep d 2 (rsNext d 2) (rsPrev d 2) <|
  rsStep d 3 (rsNext d 3) (rsPrev d 3) <|
  rsStep d 4 (rsNext d 4) (rsPrev d 4) <|
  rsStep d 5 (rsNext d 5) (rsPrev d 5) <|
  rsStep d 6 (rsNext d 6) (rsPrev d 6) <|
  middle d <|
  first d 0 <|
  first d 1 <|
  first d 2 <|
  first d 3 <|
  agStep d 0 <|
  agStep d 1 <|
  agStep d 2 <|
  agStep d 3 <|
  agStep d 4 <|
  agStep d 5 <|
  last d <| ends <| .ret ⟨⟩

/-- The whole body. -/
def body : Prg F := .op .deviceId fun d => rest d

set_option maxRecDepth 100000 in
set_option maxHeartbeats 0 in
/-- The printed body is this one. -/
theorem body_eq : cc0__moe_body_skel xM (Memref.isWhole_whole _) rM (Memref.isWhole_whole _) iM (Memref.isWhole_whole _) eM (Memref.isWhole_whole _) oM (Memref.isWhole_whole _) wM (Memref.isWhole_whole _) bM (Memref.isWhole_whole _) pM (Memref.isWhole_whole _) (rsM false) (rsM_whole false) (rsM true) (rsM_whole true) (agM false) (agM_whole false) (agM true) (agM_whole true) (stM false) (stM_whole false) (stM true) (stM_whole true) (sgM false) (sgM_whole false) (sgM true) (sgM_whole true) cc0_scratch11 cc0_scratch12 cc0_scratch13 cc0_scratch14 cc0_scratch15 cc0_scratch16 cc0_scratch17 cc0_scratch18 = body (F := F) := by
  chain_rfl

end Cert.KernelIdeal.Moe
-- ==== Proof.Contents.lean ====
/- What every buffer holds: the partial products, the running sums of the reduce-scatter, the chunks that travel and the
   result, as functions of the four inputs of each device. -/
module

public import proofs.«01_k».proof.Proof.Prog
public import Idealize.ShloMosaic.Lib.VecWindow
public import Idealize.ShloMosaic.Lib.ValueLayout
public import Idealize.ShloMosaic.Lib.Pointwise

@[expose] public section

noncomputable section

namespace Cert.KernelIdeal.Moe

open Idealize.ShloMosaic Idealize.ShloMosaic.TcCoe
open Cert.KernelIdeal.Gen

variable {F : FTy → Type} [FloatOps F]

/-! ## The ring -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩
theorem prv_nxt (c : Dev nD) : prv (nxt c) = c := by revert c; decide
theorem nxt_prv (c : Dev nD) : nxt (prv c) = c := by revert c; decide

/-- The neighbour a direction sends to. -/
def nb (b : Bool) (c : Dev nD) : Dev nD := match b with
  | false => nxt c
  | true => prv c
theorem nb_nb (b : Bool) (c : Dev nD) : nb b (nb (!b) c) = c := by cases b <;> [exact nxt_prv c; exact prv_nxt c]
theorem nb_nb' (b : Bool) (c : Dev nD) : nb (!b) (nb b c) = c := by cases b <;> [exact prv_nxt c; exact nxt_prv c]

/-- The device `n` places back in direction `b`; also the number of the chunk of rows this device works on in step `n`. -/
def back (b : Bool) : Dev nD → ℕ → Dev nD
  | c, 0 => c
  | c, n + 1 => back b (nb (!b) c) n

theorem back_nb (b : Bool) (c : Dev nD) (n : ℕ) : back b (nb b c) (n + 1) = back b c n := by
  show back b (nb (!b) (nb b c)) n = _; rw [nb_nb']
theorem back_succ (b : Bool) (c : Dev nD) (n : ℕ) : back b c (n + 1) = nb (!b) (back b c n) := by
  induction n generalizing c with
  | zero => rfl
  | succ n ih => exact ih (nb (!b) c)
theorem back_inj (b : Bool) (c : Dev nD) (i j : Fin 8) (h : back b c i.val = back b c j.val) : i = j := by
  revert b c i j; decide +kernel
theorem back_surj (b : Bool) (c k : Dev nD) : ∃ j : Fin 8, back b c j.val = k := by revert b c k; decide +kernel
theorem back_seven (b : Bool) (c : Dev nD) : back b c 7 = nb b c := by revert b c; decide +kernel

/-! ## Closed forms of the printed devices and offsets -/

/-- The first column of a half. -/
def col (b : Bool) : ℕ := match b with
  | false => 0
  | true => 512

theorem dev1_eq (d : Dev nD) : (⟨k0_dev1 d, k0_dev1_lt d⟩ : Dev nD) = prv d := by revert d; decide +kernel
theorem dev2_eq (d : Dev nD) : (⟨k0_dev2 d, k0_dev2_lt d⟩ : Dev nD) = nxt d := by revert d; decide +kernel
theorem rsNext_eq (d : Dev nD) (s : Fin 7) : rsNext d s = nxt d := by revert d s; decide +kernel
theorem rsPrev_eq (d : Dev nD) (s : Fin 7) : rsPrev d s = prv d := by revert d s; decide +kernel
theorem agNext_eq (d : Dev nD) (t : Fin 7) (p : Fin 4) : agNext d t p = nxt d := by revert d t p; decide +kernel
theorem agPrev_eq (d : Dev nD) (t : Fin 7) (p : Fin 4) : agPrev d t p = prv d := by revert d t p; decide +kernel

/-- The offsets of chunk `k`, half `b`, of the result; of chunk `k` of the rows and of the weights; of half `b` of the experts. -/
abbrev offO (k : Dev nD) (b : Bool) : Fin 2 → ℕ := ![256 * k.val, col b]
abbrev offR (k : Dev nD) : Fin 2 → ℕ := ![256 * k.val, 0]
abbrev offE (b : Bool) : Fin 3 → ℕ := ![0, 0, col b]

theorem offO_inb (k : Dev nD) (b : Bool) : ∀ a, offO k b a + S256x512.size a ≤ S2048x1024.size a := by revert k b; decide +kernel
theorem offX_inb (k : Dev nD) : ∀ a, offR k a + S256x512.size a ≤ S2048x512.size a := by revert k; decide +kernel
theorem offW_inb (k : Dev nD) : ∀ a, offR k a + S256x8.size a ≤ S2048x8.size a := by revert k; decide +kernel
theorem offE_inb (b : Bool) : ∀ a, offE b a + S8x512x512.size a ≤ S8x512x1024.size a := by revert b; decide +kernel

theorem off1_eq (d : Dev nD) : k0_off1 d = offR (back false d 0) := by revert d; decide +kernel
theorem off1_eq' (d : Dev nD) : k0_off1 d = offR (back true d 0) := by revert d; decide +kernel
theorem off2_eq (d : Dev nD) : k0_off2 d = offR (back false d 0) := by revert d; decide +kernel
theorem off2_eq' (d : Dev nD) : k0_off2 d = offR (back true d 0) := by revert d; decide +kernel
theorem off3_eq (d : Dev nD) : k0_off3 d = offO (back false d 0) false := by revert d; decide +kernel
theorem off4_eq (d : Dev nD) : k0_off4 d = offO (back true d 0) true := by revert d; decide +kernel
theorem off5_eq (d : Dev nD) (s : Fin 7) : k0_off5 d (BitVec.ofNat 32 s.val) = offO (back false d s.val) false := by revert d s; decide +kernel
theorem off6_eq (d : Dev nD) (s : Fin 7) : k0_off6 d (BitVec.ofNat 32 s.val) = offO (back true d s.val) true := by revert d s; decide +kernel
theorem off7_eq (d : Dev nD) (s : Fin 7) : k0_off7 d (BitVec.ofNat 32 s.val) = offR (back false d (s.val + 1)) := by revert d s; decide +kernel
theorem off8_eq (d : Dev nD) (s : Fin 7) : k0_off8 d (BitVec.ofNat 32 s.val) = offR (back false d (s.val + 1)) := by revert d s; decide +kernel
theorem off9_eq (d : Dev nD) (s : Fin 7) : k0_off9 d (BitVec.ofNat 32 s.val) = offO (back false d (s.val + 1)) false := by revert d s; decide +kernel
theorem off10_eq (d : Dev nD) (s : Fin 7) : k0_off10 d (BitVec.ofNat 32 s.val) = offR (back true d (s.val + 1)) := by revert d s; decide +kernel
theorem off11_eq (d : Dev nD) (s : Fin 7) : k0_off11 d (BitVec.ofNat 32 s.val) = offR (back true d (s.val + 1)) := by revert d s; decide +kernel
theorem off12_eq (d : Dev nD) (s : Fin 7) : k0_off12 d (BitVec.ofNat 32 s.val) = offO (back true d (s.val + 1)) true := by revert d s; decide +kernel
theorem off13_eq (d : Dev nD) : k0_off13 d = offO (back false d 7) false := by revert d; decide +kernel
theorem off14_eq (d : Dev nD) : k0_off14 d = offO (back true d 7) true := by revert d; decide +kernel
theorem off15_eq (d : Dev nD) (t : Fin 7) : k0_off15 d (BitVec.ofNat 32 (1 + t.val)) = offO (back false d t.val) false := by revert d t; decide +kernel
theorem off16_eq (d : Dev nD) (t : Fin 7) : k0_off16 d (BitVec.ofNat 32 (1 + t.val)) = offO (back true d t.val) true := by revert d t; decide +kernel

/-! ## Tiles -/

/-- Sixteen tiles as the result's buffer. -/
def asmO (T : Dev nD → Bool → Vec F S256x512 .f32) : Vec F S2048x1024 .f32 := fun i =>
  T ⟨(i 0).val / 256, by have h : (i 0).val < 2048 := (i 0).isLt; show _ < 8; omega⟩ (decide (512 ≤ (i 1).val))
    (ix2 (⟨(i 0).val % 256, Nat.mod_lt _ (by decide)⟩ : Fin 256) (⟨(i 1).val % 512, Nat.mod_lt _ (by decide)⟩ : Fin 512))
/-- Eight tiles as the scaled rows' buffer. -/
def asmP (T : Fin 8 → Vec F S256x512 .bf16) : Vec F S256x4096 .bf16 := fun i =>
  T ⟨(i 1).val / 512, by have h : (i 1).val < 4096 := (i 1).isLt; omega⟩
    (ix2 (⟨(i 0).val, (i 0).isLt⟩ : Fin 256) (⟨(i 1).val % 512, Nat.mod_lt _ (by decide)⟩ : Fin 512))
/-- Seven slots as a buffer. -/
def asmS (T : Fin 7 → Vec F S1x256x512 .bf16) : Vec F S7x256x512 .bf16 := fun i =>
  T (i 0) (ix3 (0 : Fin 1) (i 1) (i 2))

/-- One tile replaced. -/
def updO (T : Dev nD → Bool → Vec F S256x512 .f32) (k : Dev nD) (b : Bool) (v : Vec F S256x512 .f32) :
    Dev nD → Bool → Vec F S256x512 .f32 := fun k' b' => if k' = k ∧ b' = b then v else T k' b'

theorem updO_same (T : Dev nD → Bool → Vec F S256x512 .f32) (k : Dev nD) (b : Bool) (v) : updO T k b v k b = v := if_pos ⟨rfl, rfl⟩
theorem updO_ne (T : Dev nD → Bool → Vec F S256x512 .f32) {k k' : Dev nD} {b b' : Bool} (v) (h : k' ≠ k ∨ b' ≠ b) :
    updO T k b v k' b' = T k' b' := if_neg fun ⟨h1, h2⟩ => h.elim (· h1) (· h2)

def updP (T : Fin 8 → Vec F S256x512 .bf16) (x : Fin 8) (v : Vec F S256x512 .bf16) : Fin 8 → Vec F S256x512 .bf16 :=
  fun x' => if x' = x then v else T x'

theorem updP_same (T : Fin 8 → Vec F S256x512 .bf16) (x : Fin 8) (v) : updP T x v x = v := if_pos rfl
theorem updP_ne (T : Fin 8 → Vec F S256x512 .bf16) {x x' : Fin 8} (v) (h : x' ≠ x) : updP T x v x' = T x' := if_neg h

/-! ## The values -/

/-- A device's four inputs. -/
structure Ins (F : FTy → Type) [FloatOps F] where
  x : Vec F S2048x512 .bf16
  r : Vec F S512x64 .bf16
  i : Vec F S2048x2 .i32
  e : Vec F S8x512x1024 .bf16

variable (D : Dev nD → Ins F)

/-- The rows as the kernel keeps them. -/
def rowsOf (c : Dev nD) : Vec F S2048x512 .bf16 := k0_pay4 (k0_pay1 (D c).x)
/-- The weights of the device's eight experts. -/
def wtsOf (c : Dev nD) : Vec F S2048x8 .bf16 :=
  k0_pay3 (k0_pay2 (idWord c) (k0_pay1 (D c).x) (D c).r
    (VecWindow.window (D c).i ![0, 0] S2048x1.size inb_S2048x2_S2048x1_0_0) (VecWindow.window (D c).i ![0, 1] S2048x1.size inb_S2048x2_S2048x1_0_1))

/-- The device's own part of chunk `k`, half `b`. -/
def part (c k : Dev nD) (b : Bool) : Vec F S256x512 .f32 :=
  k0_pay14 (asmP (scaled (VecWindow.window (rowsOf D c) (offR k) S256x512.size (offX_inb k))
      (VecWindow.window (wtsOf D c) (offR k) S256x8.size (offW_inb k))))
    (VecWindow.window (D c).e (offE b) S8x512x512.size (offE_inb b))

/-- The running sum in direction `b` on device `c` after step `n`. -/
def acc (b : Bool) : Dev nD → ℕ → Vec F S256x512 .f32
  | c, 0 => part D c (back b c 0) b
  | c, n + 1 => k0_pay48 (part D c (back b c (n + 1)) b) (k0_pay25 (acc b (nb (!b) c) n))

/-- What a device stages to send in the reduce-scatter, -/
def sgC (b : Bool) (c : Dev nD) : Vec F S7x256x512 .bf16 := asmS fun s => k0_pay25 (acc D b c s.val)
/-- what arrives, -/
def rsC (b : Bool) (c : Dev nD) : Vec F S7x256x512 .bf16 := sgC D b (nb (!b) c)
/-- the finished chunk, -/
def stC (b : Bool) (c : Dev nD) : Vec F S256x512 .bf16 := k0_pay207 (acc D b c 7)
/-- and what arrives in the all-gather. -/
def agC (b : Bool) (c : Dev nD) : Vec F S7x256x512 .bf16 := fun i => stC D b (back b c ((i 0).val + 1)) (ix2 (i 1) (i 2))

/-- The finished chunk read from a slot. -/
def got (b : Bool) (c : Dev nD) : Vec F S256x512 .f32 := k0_pay209 fun i => stC D b c (ix2 (i 1) (i 2))

/-- The result's tiles on device `c`. -/
def outT (c k : Dev nD) (b : Bool) : Vec F S256x512 .f32 :=
  if k = nb b c then acc D b c 7 else got D b (nb (!b) k)
/-- The result on device `c`. -/
def outC (c : Dev nD) : Vec F S2048x1024 .f32 := asmO (outT D c)

/-! ## Windows of the buffers -/

theorem window_asmO (T : Dev nD → Bool → Vec F S256x512 .f32) (k : Dev nD) (b : Bool) :
    VecWindow.window (asmO T) (offO k b) S256x512.size (offO_inb k b) = T k b := by
  funext y
  obtain ⟨y0, y1, rfl⟩ : ∃ (y0 : Fin 256) (y1 : Fin 512), y = ix2 y0 y1 := ⟨y 0, y 1, eq_ix2 y⟩
  have h0 := y0.isLt
  have h1 := y1.isLt
  show T ⟨(256 * k.val + 1 * y0.val) / 256, _⟩ (decide (512 ≤ col b + 1 * y1.val))
    (ix2 ⟨(256 * k.val + 1 * y0.val) % 256, _⟩ ⟨(col b + 1 * y1.val) % 512, _⟩) = T k b (ix2 y0 y1)
  have e0 : (⟨(256 * k.val + 1 * y0.val) / 256, by have := k.isLt; show _ < 8; have h8 : k.val < 8 := k.isLt; omega⟩ : Dev nD) = k :=
    Fin.ext (by show (256 * k.val + 1 * y0.val) / 256 = k.val; omega)
  have e1 : decide (512 ≤ col b + 1 * y1.val) = b := by cases b <;> simp [col]
  have e2 : (⟨(256 * k.val + 1 * y0.val) % 256, Nat.mod_lt _ (by decide)⟩ : Fin 256) = y0 := Fin.ext (by show _ % 256 = y0.val; omega)
  have e3 : (⟨(col b + 1 * y1.val) % 512, Nat.mod_lt _ (by decide)⟩ : Fin 512) = y1 :=
    Fin.ext (by show _ % 512 = y1.val; cases b <;> simp only [col] <;> omega)
  rw [e0, e1, e2, e3]

theorem put_asmO (T : Dev nD → Bool → Vec F S256x512 .f32) (k : Dev nD) (b : Bool) (v : Vec F S256x512 .f32) :
    VecWindow.put (asmO T) (offO k b) S256x512.size v = asmO (updO T k b v) := by
  funext y
  obtain ⟨y0, y1, rfl⟩ : ∃ (y0 : Fin 2048) (y1 : Fin 1024), y = ix2 y0 y1 := ⟨y 0, y 1, eq_ix2 y⟩
  have hk : k.val < 8 := k.isLt
  have h0 := y0.isLt
  have h1 := y1.isLt
  by_cases h : y0.val / 256 = k.val ∧ decide (512 ≤ y1.val) = b
  · obtain ⟨ha, hb⟩ := h
    have hin : ∀ a, offO k b a ≤ ((ix2 y0 y1 : S2048x1024.Idx) a).val ∧ ((ix2 y0 y1 : S2048x1024.Idx) a).val < offO k b a + S256x512.size a := by
      refine Fin.forall_fin_two.mpr ⟨?_, ?_⟩
      · show 256 * k.val ≤ y0.val ∧ y0.val < 256 * k.val + 256; omega
      · show col b ≤ y1.val ∧ y1.val < col b + 512
        cases b <;> simp [col] at hb ⊢ <;> omega
    refine (dif_pos hin).trans ?_
    unfold asmO
    rw [show (⟨((ix2 y0 y1 : S2048x1024.Idx) 0).val / 256, _⟩ : Dev nD) = k from Fin.ext ha,
      show decide (512 ≤ ((ix2 y0 y1 : S2048x1024.Idx) 1).val) = b from hb, updO_same]
    refine congrArg v (funext fun a => Fin.ext ?_)
    revert a
    refine Fin.forall_fin_two.mpr ⟨?_, ?_⟩
    · show y0.val - 256 * k.val = y0.val % 256; omega
    · show y1.val - col b = y1.val % 512
      cases b <;> simp [col] at hb ⊢ <;> omega
  · have hout : ¬ ∀ a, offO k b a ≤ ((ix2 y0 y1 : S2048x1024.Idx) a).val ∧ ((ix2 y0 y1 : S2048x1024.Idx) a).val < offO k b a + S256x512.size a := by
      intro hall
      have ha : 256 * k.val ≤ y0.val ∧ y0.val < 256 * k.val + 256 := hall 0
      have hb : col b ≤ y1.val ∧ y1.val < col b + 512 := hall 1
      refine h ⟨by omega, ?_⟩
      cases b <;> simp [col] at hb ⊢ <;> omega
    refine (dif_neg hout).trans ?_
    unfold asmO
    refine (congrFun (updO_ne T v ?_) _).symm
    by_contra hc
    rw [not_or, not_not, not_not] at hc
    exact h ⟨congrArg Fin.val hc.1, hc.2⟩

theorem window_asmS (T : Fin 7 → Vec F S1x256x512 .bf16) (s : Fin 7) :
    VecWindow.window (asmS T) ![s.val, 0, 0] S1x256x512.size (slot_inb s) = T s := by
  funext y
  obtain ⟨y0, y1, y2, rfl⟩ : ∃ (y0 : Fin 1) (y1 : Fin 256) (y2 : Fin 512), y = ix3 y0 y1 y2 := ⟨y 0, y 1, y 2, eq_ix3 y⟩
  obtain rfl : y0 = 0 := Subsingleton.elim _ _
  show T ⟨s.val + 1 * 0, _⟩ (ix3 0 ⟨0 + 1 * y1.val, _⟩ ⟨0 + 1 * y2.val, _⟩) = _
  simp only [Nat.mul_zero, Nat.add_zero, Nat.zero_add, Nat.one_mul]

theorem window_agC (b : Bool) (c : Dev nD) (t : Fin 7) :
    VecWindow.window (agC D b c) ![t.val, 0, 0] S1x256x512.size (slot_inb t)
      = fun i => stC D b (back b c (t.val + 1)) (ix2 (i 1) (i 2)) := by
  funext y
  obtain ⟨y0, y1, y2, rfl⟩ : ∃ (y0 : Fin 1) (y1 : Fin 256) (y2 : Fin 512), y = ix3 y0 y1 y2 := ⟨y 0, y 1, y 2, eq_ix3 y⟩
  obtain rfl : y0 = 0 := Subsingleton.elim _ _
  show stC D b (back b c ((t.val + 1 * 0) + 1)) (ix2 ⟨0 + 1 * y1.val, _⟩ ⟨0 + 1 * y2.val, _⟩) = _
  simp only [Nat.mul_zero, Nat.add_zero, Nat.zero_add, Nat.one_mul]
  rfl

/-- Any contents of the scaled rows' buffer with tile `x` put. -/
theorem put_asmP (T : Fin 8 → Vec F S256x512 .bf16) (x : Fin 8) (v : Vec F S256x512 .bf16) :
    VecWindow.put (asmP T) ![0, 512 * x.val] S256x512.size v = asmP (updP T x v) := by
  funext y
  obtain ⟨y0, y1, rfl⟩ : ∃ (y0 : Fin 256) (y1 : Fin 4096), y = ix2 y0 y1 := ⟨y 0, y 1, eq_ix2 y⟩
  have hx := x.isLt
  have h0 := y0.isLt
  have h1 := y1.isLt
  by_cases h : y1.val / 512 = x.val
  · have hin : ∀ a, (![0, 512 * x.val] : Fin 2 → ℕ) a ≤ ((ix2 y0 y1 : S256x4096.Idx) a).val ∧ ((ix2 y0 y1 : S256x4096.Idx) a).val < (![0, 512 * x.val] : Fin 2 → ℕ) a + S256x512.size a := by
      refine Fin.forall_fin_two.mpr ⟨?_, ?_⟩
      · show 0 ≤ y0.val ∧ y0.val < 0 + 256; omega
      · show 512 * x.val ≤ y1.val ∧ y1.val < 512 * x.val + 512; omega
    refine (dif_pos hin).trans ?_
    unfold asmP
    rw [show (⟨((ix2 y0 y1 : S256x4096.Idx) 1).val / 512, _⟩ : Fin 8) = x from Fin.ext h, updP_same]
    refine congrArg v (funext fun a => Fin.ext ?_)
    revert a
    refine Fin.forall_fin_two.mpr ⟨?_, ?_⟩
    · show y0.val - 0 = y0.val; omega
    · show y1.val - 512 * x.val = y1.val % 512; omega
  · have hout : ¬ ∀ a, (![0, 512 * x.val] : Fin 2 → ℕ) a ≤ ((ix2 y0 y1 : S256x4096.Idx) a).val ∧ ((ix2 y0 y1 : S256x4096.Idx) a).val < (![0, 512 * x.val] : Fin 2 → ℕ) a + S256x512.size a := by
      intro hall
      have hb : 512 * x.val ≤ y1.val ∧ y1.val < 512 * x.val + 512 := hall 1
      exact h (by omega)
    refine (dif_neg hout).trans ?_
    unfold asmP
    exact (congrFun (updP_ne T v fun hc => h (congrArg Fin.val hc)) _).symm

/-- Every contents of the result's buffer are tiles, -/
theorem asmO_window (f : Vec F S2048x1024 .f32) :
    asmO (fun k b => VecWindow.window f (offO k b) S256x512.size (offO_inb k b)) = f := by
  funext y
  obtain ⟨y0, y1, rfl⟩ : ∃ (y0 : Fin 2048) (y1 : Fin 1024), y = ix2 y0 y1 := ⟨y 0, y 1, eq_ix2 y⟩
  have h0 := y0.isLt
  have h1 := y1.isLt
  refine congrArg f (funext fun a => Fin.ext ?_)
  revert a
  refine Fin.forall_fin_two.mpr ⟨?_, ?_⟩
  · show 256 * (y0.val / 256) + 1 * (y0.val % 256) = y0.val; omega
  · show col (decide (512 ≤ y1.val)) + 1 * (y1.val % 512) = y1.val
    by_cases h : 512 ≤ y1.val
    · rw [decide_eq_true h]; show 512 + _ = _; omega
    · rw [decide_eq_false h]; show 0 + _ = _; omega
/-- and every contents of the scaled rows' buffer are. -/
theorem asmP_window (f : Vec F S256x4096 .bf16) :
    asmP (fun x => VecWindow.window f ![0, 512 * x.val] S256x512.size (by revert x; decide)) = f := by
  funext y
  obtain ⟨y0, y1, rfl⟩ : ∃ (y0 : Fin 256) (y1 : Fin 4096), y = ix2 y0 y1 := ⟨y 0, y 1, eq_ix2 y⟩
  have h1 := y1.isLt
  refine congrArg f (funext fun a => Fin.ext ?_)
  revert a
  refine Fin.forall_fin_two.mpr ⟨?_, ?_⟩
  · show 0 + 1 * y0.val = y0.val; omega
  · show 512 * (y1.val / 512) + 1 * (y1.val % 512) = y1.val; omega

end Cert.KernelIdeal.Moe
-- ==== Proof.Sched.lean ====
/- The semaphores as cells of the rounds library: which device pays each, what it hands over, how much it credits, what
   each device owes in which order, and the levels that let every wait wait. -/
module

public import proofs.«01_k».proof.Proof.Contents
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A semaphore of the reduce-scatter is named by its step and direction, one of the all-gather by its hop, its piece and
    its direction. -/
abbrev RsK : Type := Fin 7 × Bool
abbrev AgK : Type := Fin 7 × (Fin 4 × Bool)
/-- The transfers' semaphores: the send and the receive ones of each phase. -/
abbrev Key : Type := (RsK ⊕ RsK) ⊕ (AgK ⊕ AgK)
/-- All of them, the barrier's first. -/
abbrev Cell : Type := Unit ⊕ Key

abbrev kRsS (b : Bool) (s : Fin 7) : Key := .inl (.inl (s, b))
abbrev kRsR (b : Bool) (s : Fin 7) : Key := .inl (.inr (s, b))
abbrev kAgS (b : Bool) (t : Fin 7) (p : Fin 4) : Key := .inr (.inl (t, p, b))
abbrev kAgR (b : Bool) (t : Fin 7) (p : Fin 4) : Key := .inr (.inr (t, p, b))
instance instDecidableEqKey : DecidableEq Key := inferInstance
instance instDecidableEqCell : DecidableEq Cell := instDecidableEqSum
instance instFintypeKey : Fintype Key := inferInstance
instance instFintypeCell : Fintype Cell := instFintypeSum _ _
abbrev cBar : Cell := .inl ()

def keySem : Key → DmaSem sig
  | .inl (.inl (s, b)) => rsSend b s
  | .inl (.inr (s, b)) => rsRecv b s
  | .inr (.inl (t, p, b)) => agSend b t p
  | .inr (.inr (t, p, b)) => agRecv b t p
def cellSem : Cell → SemLoc sig
  | .inl _ => .reg barS
  | .inr k => .dma (keySem k)
/-- Device `c`'s semaphore of name `x`. -/
def kcell (c : Dev nD) (x : Cell) : GSem nD τ sig := ((c : Thread nD τ), cellSem x)

theorem keySem_injective : Function.Injective keySem := by
  have h : ∀ a b : Key, (keySem a).val = (keySem b).val → a = b := by decide +kernel
  exact fun a b e => h a b (congrArg Fin.val e)
theorem cellSem_injective : Function.Injective cellSem := by
  rintro (⟨⟩ | a) (⟨⟩ | b) h
  · rfl
  · cases h
  · cases h
  · exact congrArg Sum.inr (keySem_injective (SemLoc.dma.inj h))
theorem kcell_injective : Function.Injective (fun x : Dev nD × Cell => kcell x.1 x.2) := by
  rintro ⟨c, k⟩ ⟨c', k'⟩ h
  have h1 : c = c' := congrArg (fun g : GSem nD τ sig => g.1.1) h
  have h2 : cellSem k = cellSem k' := congrArg Prod.snd h
  rw [h1, cellSem_injective h2]

/-- The cell a semaphore is, if any. -/
def decode : SemLoc sig → Option Cell := Function.partialInv cellSem
theorem decode_cell (x : Cell) : decode (cellSem x) = some x := Function.partialInv_left cellSem_injective x
theorem decode_none (q : DmaSem sig) (h : q.val < 5) : decode (.dma q) = none := by
  refine dif_neg ?_
  rintro ⟨⟨⟩ | k, hk⟩
  · cases hk
  · have hv : ∀ a : Key, 5 ≤ (keySem a).val := by decide +kernel
    have := hv k
    rw [SemLoc.dma.inj hk] at this
    omega

/-- The device whose cell `x` device `c` pays (the barrier's duty `d`). -/
def tgt (x : Cell) (d : Bool) (c : Dev nD) : Dev nD := match x with
  | .inl _ => nb (!d) c
  | .inr (.inl (.inl _)) => c
  | .inr (.inl (.inr (_, b))) => nb b c
  | .inr (.inr (.inl _)) => c
  | .inr (.inr (.inr (_, _, b))) => nb b c
def ringE (b : Bool) : Dev nD ≃ Dev nD := ⟨nb b, nb (!b), nb_nb' b, nb_nb b⟩
/-- Every cell is paid by exactly one device. -/
def tgtE (x : Cell) (d : Bool) : Dev nD ≃ Dev nD := match x with
  | .inl _ => ringE (!d)
  | .inr (.inl (.inl _)) => Equiv.refl _
  | .inr (.inl (.inr (_, b))) => ringE b
  | .inr (.inr (.inl _)) => Equiv.refl _
  | .inr (.inr (.inr (_, _, b))) => ringE b
theorem tgtE_apply (x : Cell) (d : Bool) (c : Dev nD) : tgtE x d c = tgt x d c := by
  rcases x with ⟨⟩ | ((⟨s, b⟩ | ⟨s, b⟩) | (⟨t, p, b⟩ | ⟨t, p, b⟩)) <;> rfl

/-- What a slot's transfer credits, and a piece's. -/
def NS : ℕ := (slotM (rsM false) 0).view.dmaCredit
def NP : ℕ := (pieceM (agM false) 0 0).view.dmaCredit
theorem NS_pos : 0 < NS := View.dmaCredit_pos _ (by decide)
theorem NP_pos : 0 < NP := View.dmaCredit_pos _ (by decide)
theorem slotRs_credit (b : Bool) (s : Fin 7) : (slotM (rsM b) s).view.dmaCredit = NS := by cases b <;> rfl
theorem slotSg_credit (b : Bool) (s : Fin 7) : (slotM (sgM b) s).view.dmaCredit = NS := by cases b <;> rfl
theorem piece_credit (b : Bool) (t : Fin 7) (p : Fin 4) : (pieceM (agM b) t p).view.dmaCredit = NP := by cases b <;> rfl
theorem row_credit (b : Bool) (p : Fin 4) : (rowM (stM b) p).view.dmaCredit = NP := by cases b <;> rfl

def amtC : Cell → ℕ
  | .inl _ => 1
  | .inr (.inl _) => NS
  | .inr (.inr _) => NP
theorem amtC_pos (x : Cell) : 0 < amtC x := by
  rcases x with ⟨⟩ | (k | k)
  · exact Nat.one_pos
  · exact NS_pos
  · exact NP_pos

/-! ## Held parts of buffers -/

def wholeP {s : Shape} {e : EltTy} (m : Memref sig .tc .vmem s e) (q : PosShare TreeShare) (c : Dev nD) (X : s.Idx → Elt F e) : sProp 𝕄 :=
  m.view.loc (c : Thread nD τ) ↦[m.view.set]{q} m.view.rep X
def slotP (m : Memref sig .tc .vmem S7x256x512 .bf16) (s : Fin 7) (q : PosShare TreeShare) (c : Dev nD) (X : S7x256x512.Idx → Elt F .bf16) : sProp 𝕄 :=
  (slotM m s).view.loc (c : Thread nD τ) ↦[(slotM m s).view.set]{q} m.view.rep X
def pieceP (m : Memref sig .tc .vmem S7x256x512 .bf16) (t : Fin 7) (p : Fin 4) (q : PosShare TreeShare) (c : Dev nD) (X : S7x256x512.Idx → Elt F .bf16) : sProp 𝕄 :=
  (pieceM m t p).view.loc (c : Thread nD τ) ↦[(pieceM m t p).view.set]{q} m.view.rep X
def rowP (m : Memref sig .tc .vmem S256x512 .bf16) (p : Fin 4) (q : PosShare TreeShare) (c : Dev nD) (X : S256x512.Idx → Elt F .bf16) : sProp 𝕄 :=
  (rowM m p).view.loc (c : Thread nD τ) ↦[(rowM m p).view.set]{q} m.view.rep X

instance wholeP_storable {s : Shape} {e : EltTy} (m : Memref sig .tc .vmem s e) (q c) (X : s.Idx → Elt F e) :
    BI.Storable (upEmb : UEmb _ 𝕄) (wholeP m q c X) := by unfold wholeP; infer_instance
instance slotP_storable (m s q c) (X : S7x256x512.Idx → Elt F .bf16) : BI.Storable (upEmb : UEmb _ 𝕄) (slotP m s q c X) := by unfold slotP; infer_instance
instance pieceP_storable (m t p q c) (X : S7x256x512.Idx → Elt F .bf16) : BI.Storable (upEmb : UEmb _ 𝕄) (pieceP m t p q c X) := by unfold pieceP; infer_instance
instance rowP_storable (m p q c) (X : S256x512.Idx → Elt F .bf16) : BI.Storable (upEmb : UEmb _ 𝕄) (rowP m p q c X) := by unfold rowP; infer_instance

/-! ## The schedule -/

variable (D : Dev nD → Ins F)

/-- What the payer of cell `x` of device `d` hands over. -/
def pay (x : Cell) (d : Dev nD) (u : Bool) : sProp 𝕄 := match x with
  | .inl _ => iprop((∃ X, wholeP (rsM u) fullShare (nb u d) X) ∗ ∃ X, wholeP (agM u) fullShare (nb u d) X)
  | .inr (.inl (.inl (s, b))) => slotP (sgM b) s fullShare d (sgC D b d)
  | .inr (.inl (.inr (s, b))) => slotP (rsM b) s fullShare d (rsC D b d)
  | .inr (.inr (.inl (⟨0, _⟩, p, b))) => rowP (stM b) p fullShare d (stC D b d)
  | .inr (.inr (.inl (⟨t + 1, h⟩, p, b))) => pieceP (agM b) ⟨t, by omega⟩ p fullShare.left d (agC D b d)
  | .inr (.inr (.inr (t, p, b))) => pieceP (agM b) t p fullShare d (agC D b d)

instance pay_storable (x : Cell) (d : Dev nD) (u : Bool) : BI.Storable (upEmb : UEmb _ 𝕄) (pay D x d u) := by
  rcases x with ⟨⟩ | ((⟨s, b⟩ | ⟨s, b⟩) | (⟨⟨t, ht⟩, p, b⟩ | ⟨t, p, b⟩))
  · show BI.Storable upEmb iprop((∃ X, wholeP (rsM u) fullShare (nb u d) X) ∗ ∃ X, wholeP (agM u) fullShare (nb u d) X)
    infer_instance
  · exact slotP_storable _ _ _ _ _
  · exact slotP_storable _ _ _ _ _
  · cases t
    · exact rowP_storable _ _ _ _ _
    · exact pieceP_storable _ _ _ _ _ _
  · exact pieceP_storable _ _ _ _ _ _

def dutiesC : Cell → Finset Bool
  | .inl _ => Finset.univ
  | .inr _ => {false}

def Rd : Rounds.Schedule (GSem nD τ sig) Bool 𝕄 where
  duties g r := if r = 0 ∧ g.1.2 = .tc then (decode g.2).elim ∅ dutiesC else ∅
  unitless _ := False
  amount g _ _ := (decode g.2).elim 1 amtC
  payload g _ u := (decode g.2).elim iprop(emp) fun x => pay D x g.1.1 u
  amount_pos g _ _ _ := by
    cases decode g.2 with
    | none => exact Nat.one_pos
    | some x => exact amtC_pos x

instance Rd_payload_storable (g : GSem nD τ sig) (r : ℕ) (u : Bool) : BI.Storable (upEmb : UEmb _ 𝕄) ((Rd D).payload g r u) := by
  show BI.Storable upEmb ((decode g.2).elim iprop(emp) fun x => pay D x g.1.1 u)
  cases decode g.2 with
  | none => show BI.Storable upEmb iprop(emp); infer_instance
  | some x => exact pay_storable D x g.1.1 u

theorem duties_cell (c : Dev nD) (x : Cell) : (Rd D).duties (kcell c x) 0 = dutiesC x := by
  have h : (0 : ℕ) = 0 ∧ (kcell c x).1.2 = .tc := ⟨rfl, rfl⟩
  have e : (decode (kcell c x).2).elim ∅ dutiesC = dutiesC x := by
    show (decode (cellSem x)).elim ∅ dutiesC = _
    rw [decode_cell]; rfl
  exact (if_pos (e := (∅ : Finset Bool)) h).trans e
theorem duties_later (g : GSem nD τ sig) : ∀ r, 1 ≤ r → (Rd D).duties g r = ∅ :=
  fun r hr => if_neg fun h => by omega
theorem amount_cell (c : Dev nD) (x : Cell) (u : Bool) : (Rd D).amount (kcell c x) 0 u = amtC x := by
  show (decode (cellSem x)).elim 1 amtC = _
  rw [decode_cell]; rfl
theorem payload_cell (c : Dev nD) (x : Cell) (u : Bool) : (Rd D).payload (kcell c x) 0 u = pay D x c u := by
  show (decode (cellSem x)).elim iprop(emp) (fun x => pay D x c u) = _
  rw [decode_cell]; rfl
theorem expect_bar (c : Dev nD) : (Rd D).expect (kcell c cBar) 0 = 2 := by
  unfold Schedule.expect Schedule.amountOf
  rw [duties_cell, Finset.sum_congr rfl fun u _ => amount_cell D c cBar u]; rfl
theorem expect_key (c : Dev nD) (k : Key) : (Rd D).expect (kcell c (.inr k)) 0 = amtC (.inr k) := by
  unfold Schedule.expect Schedule.amountOf
  rw [duties_cell]
  show ∑ u ∈ {false}, _ = _
  rw [Finset.sum_singleton, amount_cell]
theorem rest_bar (c : Dev nD) : bigSep ((Rd D).duties (kcell c cBar) 0 \ ∅) (fun u => (Rd D).payload (kcell c cBar) 0 u)
    = iprop(pay D cBar c false ∗ pay D cBar c true) := by
  rw [Finset.sdiff_empty, duties_cell]
  show bigSep Finset.univ _ = _
  rw [bigSep_univ_eq_bigSepL [false, true] (by decide) (by decide), bigSepL_cons_cons, bigSepL_singleton,
    payload_cell, payload_cell]
  rfl
theorem rest_key (c : Dev nD) (k : Key) : bigSep ((Rd D).duties (kcell c (.inr k)) 0 \ ∅) (fun u => (Rd D).payload (kcell c (.inr k)) 0 u)
    = pay D (.inr k) c false := by
  rw [Finset.sdiff_empty, duties_cell]
  show bigSep {false} _ = _
  rw [bigSep_singleton, payload_cell]

/-! ## What is owed, and the levels -/

/-- What device `c` owes when the payments `l` are still to come, the first of them outermost. -/
def owedL (c : Dev nD) : List (Cell × Bool) → CellTallies nD τ sig Unit
  | [] => 0
  | (x, u) :: l => owedL c l + tallyAt (kcell (tgt x u c) x) () (amtC x)

theorem owedL_pos {c : Dev nD} {l : List (Cell × Bool)} {g : GSem nD τ sig} {u : Unit} (h : 0 < owedL c l g u) :
    ∃ y ∈ l, g = kcell (tgt y.1 y.2 c) y.1 := by
  induction l with
  | nil => exact absurd h (Nat.lt_irrefl 0)
  | cons y l ih =>
    by_cases hg : g = kcell (tgt y.1 y.2 c) y.1
    · exact ⟨y, List.mem_cons_self, hg⟩
    · have h' : 0 < owedL c l g u := by
        change 0 < (owedL c l + tallyAt (kcell (tgt y.1 y.2 c) y.1) () (amtC y.1)) g u at h
        rw [Pi.add_apply, Finsupp.add_apply, tallyAt_apply, if_neg (fun h' => hg h'.1)] at h
        exact h
      obtain ⟨z, hz, e⟩ := ih h'
      exact ⟨z, List.mem_cons_of_mem _ hz, e⟩

/-- The levels: the barrier first, then the reduce-scatter's arrivals step by step, then the all-gather's. -/
def lvC : Cell → ℕ
  | .inl _ => 1
  | .inr (.inl (.inl _)) => 0
  | .inr (.inl (.inr (s, _))) => 2 + s.val
  | .inr (.inr (.inl _)) => 0
  | .inr (.inr (.inr (t, _, _))) => 9 + t.val

def L (g : GSem nD τ sig) : Finset Unit := if g.1.2 = .tc then {()} else ∅
def lv (g : GSem nD τ sig) (_ : Unit) : ℕ := (decode g.2).elim 0 lvC

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Cell) (u : Unit) : lv (kcell c x) u = lvC x := by
  show (decode (cellSem x)).elim 0 lvC = _
  rw [decode_cell]; rfl

/-- A device may wait on a semaphore below everything it still owes. -/
theorem mayWait_sem (c : Dev nD) (sm : SemLoc sig) (l : List (Cell × Bool)) (n : ℕ) (hs : (decode sm).elim 0 lvC ≤ n)
    (hl : ∀ y ∈ l, n < lvC y.1) : (levAts L lv : sProp 𝕄) ⊢ MayWait (c : Thread nD τ) sm () (owedL c l) :=
  MayOwe.of_cut (L := L) (lev := lv) n
    (fun p hp => by rw [Finset.mem_singleton.mp hp, L_tc]; exact Finset.mem_singleton_self _)
    (fun g u hg => by obtain ⟨y, -, rfl⟩ := owedL_pos hg; exact Finset.mem_singleton_self _)
    (fun p hp => by rw [Finset.mem_singleton.mp hp]; exact hs)
    (fun g u hg => by obtain ⟨y, hy, rfl⟩ := owedL_pos hg; rw [lv_cell]; exact hl y hy)

theorem mayWait (c : Dev nD) (x : Cell) (l : List (Cell × Bool)) (n : ℕ) (hx : lvC x ≤ n) (hl : ∀ y ∈ l, n < lvC y.1) :
    (levAts L lv : sProp 𝕄) ⊢ MayWait (c : Thread nD τ) (cellSem x) () (owedL c l) :=
  mayWait_sem c (cellSem x) l n (by rw [decode_cell]; exact hx) hl

/-- The payments of one reduce-scatter step, before `l`; of one piece of one hop; of one hop. -/
abbrev oRs (s : Fin 7) (l : List (Cell × Bool)) : List (Cell × Bool) := (.inr (kRsR false s), false) :: (.inr (kRsR true s), false) :: l
abbrev oPc (t : Fin 7) (p : Fin 4) (l : List (Cell × Bool)) : List (Cell × Bool) :=
  (.inr (kAgR false t p), false) :: (.inr (kAgR true t p), false) :: l
abbrev oAg (t : Fin 7) (l : List (Cell × Bool)) : List (Cell × Bool) := oPc t 0 <| oPc t 1 <| oPc t 2 <| oPc t 3 l

abbrev lA6 : List (Cell × Bool) := oAg 6 []
abbrev lA5 : List (Cell × Bool) := oAg 5 lA6
abbrev lA4 : List (Cell × Bool) := oAg 4 lA5
abbrev lA3 : List (Cell × Bool) := oAg 3 lA4
abbrev lA2 : List (Cell × Bool) := oAg 2 lA3
abbrev lA1 : List (Cell × Bool) := oAg 1 lA2
abbrev lA0 : List (Cell × Bool) := oAg 0 lA1
abbrev lR6 : List (Cell × Bool) := oRs 6 lA0
abbrev lR5 : List (Cell × Bool) := oRs 5 lR6
abbrev lR4 : List (Cell × Bool) := oRs 4 lR5
abbrev lR3 : List (Cell × Bool) := oRs 3 lR4
abbrev lR2 : List (Cell × Bool) := oRs 2 lR3
abbrev lR1 : List (Cell × Bool) := oRs 1 lR2
abbrev lR0 : List (Cell × Bool) := oRs 0 lR1
/-- Everything a device pays, in order. -/
abbrev lAll : List (Cell × Bool) := (cBar, false) :: (cBar, true) :: lR0

/-- What device `c` owes at launch. -/
def O₀ (c : Dev nD) : CellTallies nD τ sig Unit := owedL c lAll

/-- What it owes with `l` still to pay, whatever its waits so far. -/
def ow (c : Dev nD) (l : List (Cell × Bool)) : sProp 𝕄 := iprop(∃ W, owes (c : Thread nD τ) (owedL c l) W)

/-! ## The records every device keeps -/

/-- Every cell's invariant, and that its first round is reached. -/
def recs (K : Dev nD × Cell → ℕ) : sProp 𝕄 :=
  iprop((bigSep Finset.univ fun ck : Dev nD × Cell => cellInv ER (Rd D) (K ck) (kcell ck.1 ck.2))
    ∗ (bigSep Finset.univ fun ck : Dev nD × Cell => reached ER (kcell ck.1 ck.2) 0) ∗ levAts L lv)
instance recs_persistent (K : Dev nD × Cell → ℕ) : BI.Persistent (recs D K) := by unfold recs; infer_instance

theorem inv_at (K : Dev nD × Cell → ℕ) (ck : Dev nD × Cell) :
    (bigSep Finset.univ fun ck : Dev nD × Cell => (cellInv ER (Rd D) (K ck) (kcell ck.1 ck.2) : sProp 𝕄)) ⊢ cellInv ER (Rd D) (K ck) (kcell ck.1 ck.2) :=
  bigSep_elim (Finset.mem_univ ck)
theorem reached_at (ck : Dev nD × Cell) :
    (bigSep Finset.univ fun ck : Dev nD × Cell => (reached ER (kcell ck.1 ck.2) 0 : sProp 𝕄)) ⊢ reached ER (kcell ck.1 ck.2) 0 :=
  bigSep_elim (Finset.mem_univ ck)
theorem recs_inv (K : Dev nD × Cell → ℕ) (c : Dev nD) (x : Cell) : recs D K ⊢ cellInv ER (Rd D) (K (c, x)) (kcell c x) := by
  unfold recs
  iintro ⟨H, -⟩
  iapply (inv_at D K (c, x)) $$ H
theorem recs_reached (K : Dev nD × Cell → ℕ) (c : Dev nD) (x : Cell) : recs D K ⊢ reached ER (kcell c x) 0 := by
  unfold recs
  iintro ⟨-, H, -⟩
  iapply (reached_at (c, x)) $$ H
theorem recs_lev (K : Dev nD × Cell → ℕ) : recs D K ⊢ levAts L lv := by
  unfold recs
  iintro ⟨-, -, H⟩
  iexact H

end Cert.KernelIdeal.Moe
-- ==== Proof.Parts.lean ====
/- Parts of buffers: a buffer of seven slots is its slots, a slot its four pieces, a chunk's buffer its four pieces; what a
   part reads; and the loads and stores of a buffer or of a slot. -/
module

public import proofs.«01_k».proof.Proof.Sched

@[expose] public section

noncomputable section

namespace Cert.KernelIdeal.Moe

open Idealize.ShloMosaic Idealize.ShloMosaic.TcCoe
open Idealize.ShloMosaic.ValueIdx (reshapeEquiv_ix2_1ab)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- The weakest precondition of a program on device `c`. -/
abbrev wpd (c : Dev nD) (p : Prg F) (Q : PUnit.{1} → sProp 𝕄) : sProp 𝕄 := wp frame (wpE (defs₀ (F := F)) 𝒱₀ (c : Thread nD τ) none) Set.univ p Q

/-! ## Contents -/

/-- Contents that read the same are held the same. -/
theorem pts_congr_read {sp : Space} {s : Shape} {e : EltTy} (v : View sig .tc sp s e) (c : Dev nD) (q : PosShare TreeShare)
    (f g : Buf (Elt F) (v.loc (c : Thread nD τ))) (h : v.read (Elt F) f = v.read (Elt F) g) :
    (v.loc (c : Thread nD τ) ↦[v.set]{q} f : sProp 𝕄) = v.loc (c : Thread nD τ) ↦[v.set]{q} g :=
  pointsTo_congr fun i hi => by
    obtain ⟨x, -, rfl⟩ := Finset.mem_map.mp hi
    have hx := congrFun h x
    rw [View.read_apply, View.read_apply] at hx
    exact (cast_inj _).mp hx

theorem pts_rep {s : Shape} {e : EltTy} (m : Memref sig .tc .vmem s e) (q : PosShare TreeShare) (c : Dev nD)
    (f : Buf (Elt F) (m.view.loc (c : Thread nD τ))) (X : s.Idx → Elt F e) (h : m.view.read (Elt F) f = X) :
    (m.view.loc (c : Thread nD τ) ↦[m.view.set]{q} f : sProp 𝕄) = wholeP m q c X :=
  pts_congr_read m.view c q _ _ (h.trans (View.read_rep _ _).symm)

theorem read_rep_at {s : Shape} {e : EltTy} {sp : Space} (v : View sig .tc sp s e) (X : s.Idx → Elt F e) (y : s.Idx) :
    v.read (Elt F) (v.rep X) y = X y := congrFun (View.read_rep v X) y

/-- What a slot, a piece of a slot and a piece of a chunk read. -/
theorem read_slot (m : Memref sig .tc .vmem S7x256x512 .bf16) (s : Fin 7) (X : S7x256x512.Idx → Elt F .bf16) :
    (slotM m s).view.read (Elt F) (m.view.rep X) = fun y : S256x512.Idx => X (ix3 s (y 0) (y 1)) := by
  funext y
  refine (read_rep_at m.view X ((slotR s).emb (Shape.reshapeEquiv squeezes_S1x256x512_S256x512.numel_eq y))).trans ?_
  obtain ⟨y0, y1, rfl⟩ : ∃ (y0 : Fin 256) (y1 : Fin 512), y = ix2 y0 y1 := ⟨y 0, y 1, eq_ix2 y⟩
  have e := reshapeEquiv_ix2_1ab squeezes_S1x256x512_S256x512.numel_eq y0 y1
  refine congrArg X ((congrArg (slotR s).emb e).trans (funext fun a => Fin.ext ?_))
  revert a
  refine Fin.forall_fin_succ.mpr ⟨?_, Fin.forall_fin_two.mpr ⟨?_, ?_⟩⟩
  · show s.val + 1 * 0 = s.val; omega
  · show 0 + 1 * y0.val = y0.val; omega
  · show 0 + 1 * y1.val = y1.val; omega

theorem read_piece (m : Memref sig .tc .vmem S7x256x512 .bf16) (t : Fin 7) (p : Fin 4) (X : S7x256x512.Idx → Elt F .bf16) :
    (pieceM m t p).view.read (Elt F) (m.view.rep X)
      = fun y : S64x512.Idx => X (ix3 t (⟨64 * p.val + (y 0).val, by have := p.isLt; have h : (y 0).val < 64 := (y 0).isLt; omega⟩ : Fin 256) (y 1)) := by
  funext y
  refine (read_rep_at m.view X ((pieceR t p).emb (Shape.reshapeEquiv squeezes_S1x64x512_S64x512.numel_eq y))).trans ?_
  obtain ⟨y0, y1, rfl⟩ : ∃ (y0 : Fin 64) (y1 : Fin 512), y = ix2 y0 y1 := ⟨y 0, y 1, eq_ix2 y⟩
  have e := reshapeEquiv_ix2_1ab squeezes_S1x64x512_S64x512.numel_eq y0 y1
  refine congrArg X ((congrArg (pieceR t p).emb e).trans (funext fun a => Fin.ext ?_))
  revert a
  refine Fin.forall_fin_succ.mpr ⟨?_, Fin.forall_fin_two.mpr ⟨?_, ?_⟩⟩
  · show t.val + 1 * 0 = t.val; omega
  · show 64 * p.val + 1 * y0.val = 64 * p.val + y0.val; omega
  · show 0 + 1 * y1.val = y1.val; omega

theorem read_row (m : Memref sig .tc .vmem S256x512 .bf16) (p : Fin 4) (X : S256x512.Idx → Elt F .bf16) :
    (rowM m p).view.read (Elt F) (m.view.rep X)
      = fun y : S64x512.Idx => X (ix2 (⟨64 * p.val + (y 0).val, by have := p.isLt; have h : (y 0).val < 64 := (y 0).isLt; omega⟩ : Fin 256) (y 1)) := by
  funext y
  refine (read_rep_at m.view X ((rowR p).emb y)).trans ?_
  refine congrArg X (funext fun a => Fin.ext ?_)
  revert a
  refine Fin.forall_fin_two.mpr ⟨?_, ?_⟩
  · show 64 * p.val + 1 * (y 0).val = 64 * p.val + (y 0).val; omega
  · show 0 + 1 * (y 1).val = (y 1).val; omega

/-! ## Cutting -/

/-- A set cut by disjoint rectangles. -/
theorem cut_rects {s : Shape} {e : EltTy} {ι : Type} [Fintype ι] [DecidableEq ι] (m : Memref sig .tc .vmem s e) (c : Dev nD)
    (q : PosShare TreeShare) (f : Buf (Elt F) (m.view.loc (c : Thread nD τ))) (S : Finset s.Idx) (R : ι → Finset s.Idx)
    (hd : ∀ i j, i ≠ j → Disjoint (R i) (R j)) (hS : ∀ x, x ∈ S ↔ ∃ i, x ∈ R i) :
    (m.view.loc (c : Thread nD τ) ↦[S.map m.view.emb]{q} f : sProp 𝕄)
      = bigSep Finset.univ fun i => m.view.loc (c : Thread nD τ) ↦[(R i).map m.view.emb]{q} f := by
  let K : ι → Finset (Idx (m.view.loc (c : Thread nD τ))) := fun i => (R i).map m.view.emb
  have key : (m.view.loc (c : Thread nD τ) ↦[Finset.univ.biUnion K]{q} f : sProp 𝕄) = bigSep Finset.univ fun i => m.view.loc (c : Thread nD τ) ↦[K i]{q} f :=
    pointsTo_biUnion Finset.univ K (fun i _ j _ h => (Finset.disjoint_map _).mpr (hd i j h))
  refine Eq.trans (congrArg (fun T => (m.view.loc (c : Thread nD τ) ↦[T]{q} f : sProp 𝕄)) ?_) key
  ext x
  constructor
  · intro h
    obtain ⟨y, hy, rfl⟩ := Finset.mem_map.mp h
    obtain ⟨i, hi⟩ := (hS y).mp hy
    exact Finset.mem_biUnion.mpr ⟨i, Finset.mem_univ _, Finset.mem_map.mpr ⟨y, hi, rfl⟩⟩
  · intro h
    obtain ⟨i, -, hi⟩ := Finset.mem_biUnion.mp h
    obtain ⟨y, hy, rfl⟩ := Finset.mem_map.mp hi
    exact Finset.mem_map.mpr ⟨y, (hS y).mpr ⟨i, hy⟩, rfl⟩

theorem slot_set (m : Memref sig .tc .vmem S7x256x512 .bf16) (s : Fin 7) : (slotM m s).view.set = (slotR s).set.map m.view.emb :=
  (View.set_reshape _ _).trans (View.set_slice _ _)
theorem piece_set (m : Memref sig .tc .vmem S7x256x512 .bf16) (t : Fin 7) (p : Fin 4) : (pieceM m t p).view.set = (pieceR t p).set.map m.view.emb :=
  (View.set_reshape _ _).trans (View.set_slice _ _)
theorem row_set (m : Memref sig .tc .vmem S256x512 .bf16) (p : Fin 4) : (rowM m p).view.set = (rowR p).set.map m.view.emb :=
  View.set_slice _ _

theorem mem_slotR (s : Fin 7) (x : S7x256x512.Idx) : x ∈ (slotR s).set ↔ (x 0).val = s.val := by
  rw [Rect.mem_set_unit, Fin.forall_fin_succ, Fin.forall_fin_two]
  have h1 : (x 1).val < 256 := (x 1).isLt
  have h2 : (x 2).val < 512 := (x 2).isLt
  show ((s.val ≤ (x 0).val ∧ (x 0).val < s.val + 1) ∧ (0 ≤ (x 1).val ∧ (x 1).val < 0 + 256) ∧ (0 ≤ (x 2).val ∧ (x 2).val < 0 + 512)) ↔ _
  omega
theorem mem_pieceR (t : Fin 7) (p : Fin 4) (x : S7x256x512.Idx) :
    x ∈ (pieceR t p).set ↔ (x 0).val = t.val ∧ (x 1).val / 64 = p.val := by
  rw [Rect.mem_set_unit, Fin.forall_fin_succ, Fin.forall_fin_two]
  have h1 : (x 1).val < 256 := (x 1).isLt
  have h2 : (x 2).val < 512 := (x 2).isLt
  show ((t.val ≤ (x 0).val ∧ (x 0).val < t.val + 1) ∧ (64 * p.val ≤ (x 1).val ∧ (x 1).val < 64 * p.val + 64) ∧ (0 ≤ (x 2).val ∧ (x 2).val < 0 + 512)) ↔ _
  omega
theorem mem_rowR (p : Fin 4) (x : S256x512.Idx) : x ∈ (rowR p).set ↔ (x 0).val / 64 = p.val := by
  rw [Rect.mem_set_unit, Fin.forall_fin_two]
  have h1 : (x 0).val < 256 := (x 0).isLt
  have h2 : (x 1).val < 512 := (x 1).isLt
  show ((64 * p.val ≤ (x 0).val ∧ (x 0).val < 64 * p.val + 64) ∧ (0 ≤ (x 1).val ∧ (x 1).val < 0 + 512)) ↔ _
  omega

theorem whole_slots (m : Memref sig .tc .vmem S7x256x512 .bf16) (q : PosShare TreeShare) (c : Dev nD) (X : S7x256x512.Idx → Elt F .bf16) :
    wholeP m q c X = bigSep Finset.univ fun s => slotP m s q c X := by
  refine (cut_rects m c q (m.view.rep X) Finset.univ (fun s => (slotR s).set)
    (fun i j h => Finset.disjoint_left.mpr fun x hi hj => h (Fin.ext (((mem_slotR i x).mp hi).symm.trans ((mem_slotR j x).mp hj))))
    (fun x => ⟨fun _ => ⟨x 0, (mem_slotR (x 0) x).mpr rfl⟩, fun _ => Finset.mem_univ _⟩)).trans ?_
  refine bigSep_congr fun s _ => ?_
  unfold slotP; rw [slot_set]
theorem slot_pieces (m : Memref sig .tc .vmem S7x256x512 .bf16) (t : Fin 7) (q : PosShare TreeShare) (c : Dev nD) (X : S7x256x512.Idx → Elt F .bf16) :
    slotP m t q c X = bigSep Finset.univ fun p => pieceP m t p q c X := by
  unfold slotP; rw [slot_set]
  refine (cut_rects m c q (m.view.rep X) (slotR t).set (fun p : Fin 4 => (pieceR t p).set)
    (fun i j h => Finset.disjoint_left.mpr fun x hi hj => h (Fin.ext (((mem_pieceR t i x).mp hi).2.symm.trans ((mem_pieceR t j x).mp hj).2)))
    (fun x => ?_)).trans ?_
  · rw [mem_slotR]
    have h1 : (x 1).val < 256 := (x 1).isLt
    exact ⟨fun h => ⟨⟨(x 1).val / 64, by omega⟩, (mem_pieceR t _ x).mpr ⟨h, rfl⟩⟩, fun ⟨p, h⟩ => ((mem_pieceR t p x).mp h).1⟩
  · refine bigSep_congr fun p _ => ?_
    unfold pieceP; rw [piece_set]
theorem whole_rows (m : Memref sig .tc .vmem S256x512 .bf16) (q : PosShare TreeShare) (c : Dev nD) (X : S256x512.Idx → Elt F .bf16) :
    wholeP m q c X = bigSep Finset.univ fun p => rowP m p q c X := by
  refine (cut_rects m c q (m.view.rep X) Finset.univ (fun p : Fin 4 => (rowR p).set)
    (fun i j h => Finset.disjoint_left.mpr fun x hi hj => h (Fin.ext (((mem_rowR i x).mp hi).symm.trans ((mem_rowR j x).mp hj))))
    (fun x => ⟨fun _ => ?_, fun _ => Finset.mem_univ _⟩)).trans ?_
  · have h1 : (x 0).val < 256 := (x 0).isLt
    exact ⟨⟨(x 0).val / 64, by omega⟩, (mem_rowR _ x).mpr rfl⟩
  · refine bigSep_congr fun p _ => ?_
    unfold rowP; rw [row_set]

/-- A piece's two halves. -/
theorem piece_halves (m : Memref sig .tc .vmem S7x256x512 .bf16) (t : Fin 7) (p : Fin 4) (c : Dev nD) (X : S7x256x512.Idx → Elt F .bf16) :
    pieceP m t p fullShare c X ⊣⊢ iprop(pieceP m t p fullShare.left c X ∗ pieceP m t p fullShare.right c X) :=
  pointsTo_share (PosShare.mem_left_op_right fullShare)

/-! ## Loads and stores -/

section Access

variable {s : Shape} {e : EltTy} (c : Dev nD)

theorem wp_loadW (m : Memref sig .tc .vmem s e) {off off' size : Fin s.rank → ℕ} {inb : ∀ a, off a + size a ≤ s.size a} (h : off = off')
    (inb' : ∀ a, off' a + size a ≤ s.size a) {hl : m.view.LoadsAt (Rect.unit off size inb).toLoadRect} {q : PosShare TreeShare} (X : s.Idx → Elt F e)
    {k : ((Rect.unit off size inb).shape.Idx → Elt F e) → Prg F} {Q : PUnit.{1} → sProp 𝕄} :
    wholeP m q c X ⊢ iprop((wholeP m q c X -∗ wpd c (k (VecWindow.window X off' size inb')) Q)
      -∗ wpd c (.op (.load m (Rect.unit off size inb).toLoadRect hl) k) Q) := by
  rw [← View.readAt_rep_unit m.view X inb h inb']
  exact wp_load 𝒱₀ (c : Thread nD τ) none Set.univ (m := m) (Finset.map_subset_map.mpr (Finset.subset_univ _))

theorem wp_storeW (m : Memref sig .tc .vmem s e) {off off' size : Fin s.rank → ℕ} {inb : ∀ a, off a + size a ≤ s.size a} (h : off = off')
    {w : (Rect.unit off size inb).shape.Idx → Elt F e} {hx : (m.access (Rect.unit off size inb)).Stores Finset.univ}
    {hm : (Finset.univ : Finset (Rect.unit off size inb).shape.Idx) = Finset.univ ∨ ∀ a, (Rect.unit off size inb).stride a = 1} (X : s.Idx → Elt F e)
    {k : PUnit.{1} → Prg F} {Q : PUnit.{1} → sProp 𝕄} :
    wholeP m fullShare c X ⊢ iprop((wholeP m fullShare c (VecWindow.put X off' size w) -∗ wpd c (k ⟨⟩) Q)
      -∗ wpd c (.op (.store m (Rect.unit off size inb) w Finset.univ hx hm) k) Q) := by
  have hr : m.view.read (Elt F) ((m.access (Rect.unit off size inb)).write (Elt F) (m.view.rep X) w Finset.univ) = VecWindow.put X off' size w :=
    View.read_writes_rep_unit m.view X inb w h
  have e : (m.view.loc (c : Thread nD τ) ↦[m.view.set]{fullShare} ((m.access (Rect.unit off size inb)).write (Elt F) (m.view.rep X) w Finset.univ) : sProp 𝕄)
      = wholeP m fullShare c (VecWindow.put X off' size w) := pts_rep m fullShare c _ _ hr
  rw [← e]
  have hS : (m.access (Rect.unit off size inb)).setOn Finset.univ ⊆ m.view.set := View.set_slice_subset _ _
  unfold wholeP
  exact wp_store 𝒱₀ (c : Thread nD τ) none Set.univ (m := m) (r := Rect.unit off size inb) (w := w) (Mk := Finset.univ)
    (S := m.view.set) (f := m.view.rep X) hS

end Access

variable (c : Dev nD)

theorem wp_loadS (m : Memref sig .tc .vmem S7x256x512 .bf16) (s : Fin 7) {hl : m.view.LoadsAt (slotR s).toLoadRect} {q : PosShare TreeShare} (X : S7x256x512.Idx → Elt F .bf16)
    {k : ((slotR s).shape.Idx → Elt F .bf16) → Prg F} {Q : PUnit.{1} → sProp 𝕄} :
    slotP m s q c X ⊢ iprop((slotP m s q c X -∗ wpd c (k (VecWindow.window X ![s.val, 0, 0] S1x256x512.size (slot_inb s))) Q)
      -∗ wpd c (.op (.load m (slotR s).toLoadRect hl) k) Q) := by
  unfold slotP
  rw [← View.readAt_rep_unit m.view X (slot_inb s) rfl (slot_inb s), slot_set]
  exact wp_load 𝒱₀ (c : Thread nD τ) none Set.univ (m := m) (r := (slotR s).toLoadRect) (Finset.Subset.refl _)

theorem wp_storeS (m : Memref sig .tc .vmem S7x256x512 .bf16) (s : Fin 7) {w : (slotR s).shape.Idx → Elt F .bf16}
    {hx : (m.access (slotR s)).Stores Finset.univ} {hm : (Finset.univ : Finset (slotR s).shape.Idx) = Finset.univ ∨ ∀ a, (slotR s).stride a = 1}
    (X X' : S7x256x512.Idx → Elt F .bf16) (hX : VecWindow.window X' ![s.val, 0, 0] S1x256x512.size (slot_inb s) = w) {k : PUnit.{1} → Prg F} {Q : PUnit.{1} → sProp 𝕄} :
    slotP m s fullShare c X ⊢ iprop((slotP m s fullShare c X' -∗ wpd c (k ⟨⟩) Q)
      -∗ wpd c (.op (.store m (slotR s) w Finset.univ hx hm) k) Q) := by
  have e : (slotM m s).view.set = (m.access (slotR s)).set := View.set_reshape _ _
  have h : slotP m s fullShare c X' = ((m.access (slotR s)).loc (c : Thread nD τ) ↦[(m.access (slotR s)).set]{fullShare}
      (m.access (slotR s)).write (Elt F) (m.view.rep X) w Finset.univ : sProp 𝕄) := by
    unfold slotP; rw [e]
    refine pts_congr_read (m.access (slotR s)) c fullShare _ _ ?_
    rw [View.read_write_univ, ← hX]
    exact View.readAt_rep_unit m.view X' (slot_inb s) rfl (slot_inb s)
  rw [h]; unfold slotP; rw [e]
  exact wp_store 𝒱₀ (c : Thread nD τ) none Set.univ (m := m) (Finset.Subset.refl _)

end Cert.KernelIdeal.Moe
-- ==== Proof.Steps.lean ====
/- What each piece of the body does: the waits and sends on the transfers' semaphores, one half of one chunk, and the
   stagings. -/
module

public import proofs.«01_k».proof.Proof.Parts

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (D : Dev nD → Ins F) (K : Dev nD × Cell → ℕ) (c : Dev nD)

/-! ## Waiting and sending -/

/-- The wait on a transfer's semaphore: its payload comes, and the semaphore is closed. -/
theorem wp_waitKey (k : Key) {sp : Space} {s : Shape} {e : EltTy} {src : Memref sig .tc sp s e} {sp' : Space} {dst : Memref sig .tc sp' s e}
    {hsrc : src.view.WordExact} {hdst : dst.view.WordExact} (hN : dst.view.dmaCredit = amtC (.inr k)) (l : List (Cell × Bool)) (n : ℕ)
    (hx : lvC (.inr k) ≤ n) (hl : ∀ y ∈ l, n < lvC y.1) {k' : PUnit.{1} → Prg F} {Q : PUnit.{1} → sProp 𝕄} :
    iprop(recs D K ∗ cred (tallyAt (kcell c (.inr k)) () (amtC (.inr k))) ∗ ow c l ∗ atPos ER (kcell c (.inr k)) 0 ∅ 0)
      ⊢ iprop(((ow c l ∗ semVal (kcell c (.inr k)) 0 ∗ pay D (.inr k) c false) -∗ wpd c (k' ⟨⟩) Q)
          -∗ wpd c (.op (.waitDma2 (keySem k) src dst hsrc hdst) k') Q) := by
  unfold ow
  iintro ⟨#HR, Hc, ⟨%W, HO⟩, Hat⟩ Hk
  ihave #HI := (recs_inv D K c (.inr k)) $$ HR
  iapply (Rounds.wp_wait_rest_token 𝒱₀ ER (Rd D) (c : Thread nD τ) none (κ := K (c, .inr k)) (sm := cellSem (.inr k))
      (wpE_waitDma2_eq 𝒱₀ (c : Thread nD τ) none Set.univ) (Set.mem_univ _) () (O := owedL c l) (W := W) (R := 0) (m := 0) (T := ∅)
      (by rw [Nat.zero_add, hN]; exact (expect_key D c k).symm)) $$ [Hc HO Hat]
  · isplitr; · iexact HI
    isplitl [Hc]; · rw [hN]; iexact Hc
    isplitl [HO]; · iexact HO
    isplitr
    · iapply (mayWait c (.inr k) l n hx hl)
      iapply (recs_lev D K) $$ HR
    iexact Hat
  iintro ⟨HO, Hat, -, Hpay⟩
  imod (Rounds.cell_close ER (Rd D) (Set.mem_univ (K (c, .inr k))) (fun h => h) (R := 0 + 1) (duties_later D (kcell c (.inr k)))) $$ [Hat] with Hz
  · isplitr; · iexact HI
    iexact Hat
  iapply Hk
  isplitl [HO]; · iexists _; iexact HO
  isplitl [Hz]; · iexact Hz
  iapply (Entails.of_eq (rest_key D c k)); iexact Hpay

/-- The start of a transfer: what it sends goes to the semaphore of the sending, what it overwrites to the receiver's. -/
theorem wp_sendKey (ks kr : Key) {sp : Space} {s : Shape} {src : Memref sig .tc sp s .bf16} {q : Dev nD} {sp' : Space}
    {dst : Memref sig (Dev.tc q : Thread nD τ).2.kind sp' s .bf16} {hsc : dst.view.ref.isScScratch = false}
    {hsrc : src.view.WordExact} {hdst : dst.view.WordExact}
    {hsem : DmaTarget.Typed sp (.dma (keySem kr)) (.remote (Dev.tc q : Thread nD τ) dst (.dma (keySem ks)) hsc)}
    (hN : dst.view.dmaCredit = amtC (.inr kr)) (hks : amtC (.inr ks) = amtC (.inr kr)) (hq : q = tgt (.inr kr) false c)
    (l : List (Cell × Bool)) (qs : PosShare TreeShare)
    (fs : Buf (Elt F) (src.view.loc (c : Thread nD τ))) (fd : Buf (Elt F) (dst.view.loc (Dev.tc q : Thread nD τ)))
    (hp₁ : (src.view.loc (c : Thread nD τ) ↦[src.view.set]{qs} fs) ⊢ pay D (.inr ks) c false)
    (hp₂ : (dst.view.loc (Dev.tc q : Thread nD τ) ↦[dst.view.set]{fullShare} (dst.view.write (Elt F) fd (src.view.read (Elt F) fs) Finset.univ))
      ⊢ pay D (.inr kr) q false) {k' : PUnit.{1} → Prg F} {Q : PUnit.{1} → sProp 𝕄} :
    iprop(recs D K ∗ (src.view.loc (c : Thread nD τ) ↦[src.view.set]{qs} fs) ∗ (dst.view.loc (Dev.tc q : Thread nD τ) ↦[dst.view.set]{fullShare} fd)
        ∗ ow c ((.inr kr, false) :: l) ∗ dutyTok ER (kcell c (.inr ks)) 0 false ∗ dutyTok ER (kcell q (.inr kr)) 0 false)
      ⊢ iprop(((ow c l ∗ cred (tallyAt (kcell c (.inr ks)) () (amtC (.inr ks)))) -∗ wpd c (k' ⟨⟩) Q)
          -∗ wpd c (.op (.enqueueDma src (.remote (Dev.tc q : Thread nD τ) dst (.dma (keySem ks)) hsc) (.dma (keySem kr)) hsrc hdst hsem) k') Q) := by
  unfold ow
  iintro ⟨#HR, Hs, Hd, ⟨%W, HO⟩, Hts, Htr⟩ Hk
  iapply (Rounds.wp_send_pointsTo 𝒱₀ ER (Rd D) (c : Thread nD τ) none (c' := (Dev.tc q : Thread nD τ)) (κ₁ := K (c, .inr ks)) (κ₂ := K (q, .inr kr))
    (sS := .dma (keySem ks)) (sem := .dma (keySem kr))
    (r₁ := 0) (r₂ := 0) (d₁ := false) (d₂ := false) (fs := fs) (fd := fd)
    (by show false ∈ (Rd D).duties (kcell c (.inr ks)) 0; rw [duties_cell]; exact Finset.mem_singleton_self _)
    (by show false ∈ (Rd D).duties (kcell q (.inr kr)) 0; rw [duties_cell]; exact Finset.mem_singleton_self _)
    () () (amtC (.inr kr)) hN ((amount_cell D c (.inr ks) false).trans hks) (amount_cell D q (.inr kr) false)
    (O₀ := owedL c ((.inr kr, false) :: l)) (owedL c l) (by rw [hq]; rfl) (W := W)
    (hp₁.trans (Entails.of_eq (payload_cell D c (.inr ks) false).symm))
    (hp₂.trans (Entails.of_eq (payload_cell D q (.inr kr) false).symm))) $$ [Hs Hd HO Hts Htr]
  · isplitr; · iapply (recs_inv D K c (.inr ks)) $$ HR
    isplitr; · iapply (recs_inv D K q (.inr kr)) $$ HR
    isplitl [Hs]; · iexact Hs
    isplitl [Hd]; · iexact Hd
    isplitl [HO]; · iexact HO
    isplitl [Hts]; · iexact Hts
    isplitr; · iapply (recs_reached D K c (.inr ks)) $$ HR
    isplitl [Htr]; · iexact Htr
    iapply (recs_reached D K q (.inr kr)) $$ HR
  iintro ⟨Hc, HO⟩
  iapply Hk
  isplitl [HO]; · iexists _; iexact HO
  rw [hks]; iexact Hc

/-! ## Half a chunk -/

theorem window_full {s : Shape} {e : EltTy} (X : s.Idx → Elt F e) {off : Fin s.rank → ℕ} (inb : ∀ a, off a + s.size a ≤ s.size a) :
    VecWindow.window X off s.size inb = X :=
  funext fun y => congrArg X (funext fun a => Fin.ext (by
    show off a + 1 * (y a).val = (y a).val
    have := inb a; omega))
theorem put_full {s : Shape} {e : EltTy} (X w : s.Idx → Elt F e) {off : Fin s.rank → ℕ} (inb : ∀ a, off a + s.size a ≤ s.size a) :
    VecWindow.put X off s.size w = w := by
  have h := VecWindow.window_put_same X off s.size inb w
  exact (window_full (VecWindow.put X off s.size w) inb).symm.trans h

theorem wp_loadFull {s : Shape} {e : EltTy} (m : Memref sig .tc .vmem s e) {off : Fin s.rank → ℕ} {inb : ∀ a, off a + s.size a ≤ s.size a}
    {hl : m.view.LoadsAt (Rect.unit off s.size inb).toLoadRect} {q : PosShare TreeShare} (X : s.Idx → Elt F e)
    {k : ((Rect.unit off s.size inb).shape.Idx → Elt F e) → Prg F} {Q : PUnit.{1} → sProp 𝕄} :
    wholeP m q c X ⊢ iprop((wholeP m q c X -∗ wpd c (k X) Q) -∗ wpd c (.op (.load m (Rect.unit off s.size inb).toLoadRect hl) k) Q) := by
  have h := wp_loadW c m (off := off) (size := s.size) (inb := inb) rfl inb (hl := hl) (q := q) X (k := k) (Q := Q)
  rw [window_full] at h
  exact h
theorem wp_storeFull {s : Shape} {e : EltTy} (m : Memref sig .tc .vmem s e) {off : Fin s.rank → ℕ} {inb : ∀ a, off a + s.size a ≤ s.size a}
    {w : (Rect.unit off s.size inb).shape.Idx → Elt F e} {hx : (m.access (Rect.unit off s.size inb)).Stores Finset.univ}
    {hm : (Finset.univ : Finset (Rect.unit off s.size inb).shape.Idx) = Finset.univ ∨ ∀ a, (Rect.unit off s.size inb).stride a = 1} (X w' : s.Idx → Elt F e)
    (hw : w = w') {k : PUnit.{1} → Prg F} {Q : PUnit.{1} → sProp 𝕄} :
    wholeP m fullShare c X ⊢ iprop((wholeP m fullShare c w' -∗ wpd c (k ⟨⟩) Q)
      -∗ wpd c (.op (.store m (Rect.unit off s.size inb) w Finset.univ hx hm) k) Q) := by
  have h := wp_storeW c m (off := off) (size := s.size) (inb := inb) rfl (w := w) (hx := hx) (hm := hm) X (k := k) (Q := Q)
  have e : VecWindow.put X off s.size w = w' := (put_full X w inb).trans hw
  rw [e] at h
  exact h

theorem wp_putTile (x : Fin 8) (v : Vec F S256x512 .bf16) (X : Vec F S256x4096 .bf16) {k : Prg F} {Q : PUnit.{1} → sProp 𝕄} :
    wholeP pM fullShare c X ⊢ iprop((wholeP pM fullShare c (VecWindow.put X ![0, 512 * x.val] S256x512.size v) -∗ wpd c k Q) -∗ wpd c (putTile x v k) Q) := by
  unfold putTile
  iintro H Hk
  iapply (wp_loadW c pM (off := ![0, 512 * x.val]) (size := S256x512.size) rfl (by revert x; decide) X) $$ H
  iintro H
  iapply (wp_storeW c pM (off := ![0, 512 * x.val]) (size := S256x512.size) rfl X) $$ H
  iintro H
  iapply Hk $$ H

theorem put_step {Y : Vec F S256x4096 .bf16} {T : Fin 8 → Vec F S256x512 .bf16} (x : Fin 8) (v : Vec F S256x512 .bf16) (h : Y = asmP T) :
    VecWindow.put Y ![0, 512 * x.val] S256x512.size v = asmP (updP T x v) := by
  rw [h]; exact put_asmP T x v
/-- Eight tiles put, whatever was there. -/
theorem put_tiles (X : Vec F S256x4096 .bf16) (T : Fin 8 → Vec F S256x512 .bf16) :
    VecWindow.put (VecWindow.put (VecWindow.put (VecWindow.put (VecWindow.put (VecWindow.put (VecWindow.put (VecWindow.put X
      ![0, 512 * (0 : Fin 8).val] S256x512.size (T 0)) ![0, 512 * (1 : Fin 8).val] S256x512.size (T 1)) ![0, 512 * (2 : Fin 8).val] S256x512.size (T 2))
      ![0, 512 * (3 : Fin 8).val] S256x512.size (T 3)) ![0, 512 * (4 : Fin 8).val] S256x512.size (T 4)) ![0, 512 * (5 : Fin 8).val] S256x512.size (T 5))
      ![0, 512 * (6 : Fin 8).val] S256x512.size (T 6)) ![0, 512 * (7 : Fin 8).val] S256x512.size (T 7) = asmP T := by
  refine (put_step 7 _ (put_step 6 _ (put_step 5 _ (put_step 4 _ (put_step 3 _ (put_step 2 _ (put_step 1 _ (put_step 0 _
    (asmP_window X).symm)))))))).trans (congrArg asmP (funext fun x => ?_))
  unfold updP
  fin_cases x <;> rfl

/-- The buffers a half reads and works in. -/
def mem : sProp 𝕄 :=
  iprop(wholeP bM fullShare c (rowsOf D c) ∗ wholeP wM fullShare c (wtsOf D c) ∗ (∃ X, wholeP pM fullShare c X) ∗ wholeP eM fullShare c (D c).e)

theorem wp_half (j : Dev nD) (b : Bool) {ox : Fin 2 → ℕ} {hx : ∀ a, ox a + S256x512.size a ≤ S2048x512.size a}
    {ow : Fin 2 → ℕ} {hw : ∀ a, ow a + S256x8.size a ≤ S2048x8.size a}
    {lo : Fin 3 → ℕ} {hlo : ∀ a, lo a + S8x512x512.size a ≤ S8x512x1024.size a}
    {oo : Fin 2 → ℕ} {ho : ∀ a, oo a + S256x512.size a ≤ S2048x1024.size a}
    (ex : ox = offR j) (ew : ow = offR j) (el : lo = offE b) (eo : oo = offO j b) (T : Dev nD → Bool → Vec F S256x512 .f32)
    {k : Prg F} {Q : PUnit.{1} → sProp 𝕄} :
    iprop(mem D c ∗ wholeP oM fullShare c (asmO T))
      ⊢ iprop(((mem D c ∗ wholeP oM fullShare c (asmO (updO T j b (part D c j b)))) -∗ wpd c k Q)
          -∗ wpd c (half ox hx ow hw lo hlo oo ho k) Q) := by
  unfold half mem
  iintro ⟨⟨Hb, Hw, ⟨%X, Hp⟩, He⟩, Ho⟩ Hk
  iapply (wp_loadW c bM ex (offX_inb j) (rowsOf D c)) $$ Hb
  iintro Hb
  iapply (wp_loadW c wM ew (offW_inb j) (wtsOf D c)) $$ Hw
  iintro Hw
  iapply (wp_putTile c 0 _ _) $$ Hp
  iintro Hp
  iapply (wp_putTile c 1 _ _) $$ Hp
  iintro Hp
  iapply (wp_putTile c 2 _ _) $$ Hp
  iintro Hp
  iapply (wp_putTile c 3 _ _) $$ Hp
  iintro Hp
  iapply (wp_putTile c 4 _ _) $$ Hp
  iintro Hp
  iapply (wp_putTile c 5 _ _) $$ Hp
  iintro Hp
  iapply (wp_putTile c 6 _ _) $$ Hp
  iintro Hp
  iapply (wp_putTile c 7 _ _) $$ Hp
  iintro Hp
  ihave Hp' := (Entails.of_eq (congrArg (wholeP pM fullShare c) (put_tiles X _))) $$ Hp
  iapply (wp_loadFull c pM _) $$ Hp'
  iintro Hp
  iapply (wp_loadW c eM el (offE_inb b) (D c).e) $$ He
  iintro He
  iapply (wp_loadW c oM eo (offO_inb j b) (asmO T)) $$ Ho
  iintro Ho
  iapply (wp_storeW c oM eo (asmO T)) $$ Ho
  iintro Ho
  iapply Hk
  isplitl [Hb Hw Hp He]
  · isplitl [Hb]; · iexact Hb
    isplitl [Hw]; · iexact Hw
    isplitl [Hp]; · iexists _; iexact Hp
    iexact He
  · rw [← put_asmO]
    iexact Ho

/-! ## The reduce-scatter's pieces -/

theorem wp_stage (b : Bool) (s : Fin 7) (j : Dev nD) {oo : Fin 2 → ℕ} {ho : ∀ a, oo a + S256x512.size a ≤ S2048x1024.size a} (eo : oo = offO j b)
    (T : Dev nD → Bool → Vec F S256x512 .f32) (hT : T j b = acc D b c s.val) {k : Prg F} {Q : PUnit.{1} → sProp 𝕄} :
    iprop(wholeP oM fullShare c (asmO T) ∗ (∃ X, slotP (sgM b) s fullShare c X))
      ⊢ iprop(((wholeP oM fullShare c (asmO T) ∗ slotP (sgM b) s fullShare c (sgC D b c)) -∗ wpd c k Q) -∗ wpd c (stage b s oo ho k) Q) := by
  unfold stage
  iintro ⟨Ho, ⟨%X, Hs⟩⟩ Hk
  iapply (wp_loadW c oM eo (offO_inb j b) (asmO T)) $$ Ho
  iintro Ho
  iapply (wp_loadS c (sgM b) s X) $$ Hs
  iintro Hs
  iapply (wp_storeS c (sgM b) s X (sgC D b c)
    ((window_asmS _ s).trans (congrArg k0_pay25 (hT.symm.trans (window_asmO T j b).symm)))) $$ Hs
  iintro Hs
  iapply Hk
  isplitl [Ho] <;> iassumption

theorem wp_sendRs (b : Bool) (s : Fin 7) {q : Dev nD} (hq : q = nb b c) (l : List (Cell × Bool)) {k : Prg F} {Q : PUnit.{1} → sProp 𝕄} :
    iprop(recs D K ∗ slotP (sgM b) s fullShare c (sgC D b c) ∗ (∃ X, slotP (rsM b) s fullShare (nb b c) X) ∗ ow c ((.inr (kRsR b s), false) :: l)
        ∗ dutyTok ER (kcell c (.inr (kRsS b s))) 0 false ∗ dutyTok ER (kcell (nb b c) (.inr (kRsR b s))) 0 false)
      ⊢ iprop(((ow c l ∗ cred (tallyAt (kcell c (.inr (kRsS b s))) () (amtC (.inr (kRsS b s))))) -∗ wpd c k Q) -∗ wpd c (sendRs b s q k) Q) := by
  subst hq
  unfold sendRs
  iintro ⟨HR, Hs, ⟨%X, Hd⟩, HO, Ht, Ht'⟩ Hk
  unfold slotP
  iapply (wp_sendKey D K c (kRsS b s) (kRsR b s) (q := nb b c) (src := slotM (sgM b) s) (dst := slotM (rsM b) s) (slotRs_credit b s) rfl rfl l fullShare
    ((sgM b).view.rep (sgC D b c)) ((rsM b).view.rep X) (Entails.refl _) (Entails.of_eq (by
      refine pts_congr_read (slotM (rsM b) s).view (nb b c) fullShare _ _ ?_
      rw [View.read_write_univ, read_slot, read_slot]
      unfold rsC; rw [nb_nb']))) $$ [HR Hs Hd HO Ht Ht']
  · isplitl [HR]; · iexact HR
    isplitl [Hs]; · iexact Hs
    isplitl [Hd]; · iexact Hd
    isplitl [HO]; · iexact HO
    isplitl [Ht]; · iexact Ht
    iexact Ht'
  iexact Hk

theorem window_rsC (b : Bool) (s : Fin 7) : VecWindow.window (rsC D b c) ![s.val, 0, 0] S1x256x512.size (slot_inb s) = k0_pay25 (acc D b (nb (!b) c) s.val) := by
  unfold rsC sgC
  exact window_asmS _ s
theorem pay_rsR (b : Bool) (s : Fin 7) : pay D (.inr (kRsR b s)) c false = slotP (rsM b) s fullShare c (rsC D b c) := rfl

theorem wp_recvRs (b : Bool) (s : Fin 7) {oo : Fin 2 → ℕ} {ho : ∀ a, oo a + S256x512.size a ≤ S2048x1024.size a}
    (eo : oo = offO (back b c (s.val + 1)) b) (T : Dev nD → Bool → Vec F S256x512 .f32)
    (hT : T (back b c (s.val + 1)) b = part D c (back b c (s.val + 1)) b) (l : List (Cell × Bool)) (hl : ∀ y ∈ l, 2 + s.val < lvC y.1)
    {k : Prg F} {Q : PUnit.{1} → sProp 𝕄} :
    iprop(recs D K ∗ cred (tallyAt (kcell c (.inr (kRsR b s))) () (amtC (.inr (kRsR b s)))) ∗ ow c l ∗ atPos ER (kcell c (.inr (kRsR b s))) 0 ∅ 0
        ∗ wholeP oM fullShare c (asmO T))
      ⊢ iprop(((ow c l ∗ semVal (kcell c (.inr (kRsR b s))) 0 ∗ slotP (rsM b) s fullShare c (rsC D b c)
            ∗ wholeP oM fullShare c (asmO (updO T (back b c (s.val + 1)) b (acc D b c (s.val + 1))))) -∗ wpd c k Q) -∗ wpd c (recvRs b s oo ho k) Q) := by
  unfold recvRs
  iintro ⟨HR, Hc, HO, Hat, Ho⟩ Hk
  iapply (wp_waitKey D K c (kRsR b s) (src := slotM (sgM b) s) (dst := slotM (rsM b) s) (slotRs_credit b s) l (2 + s.val) (le_refl _) hl) $$ [HR Hc HO Hat]
  · isplitl [HR]; · iexact HR
    isplitl [Hc]; · iexact Hc
    isplitl [HO]; · iexact HO
    iexact Hat
  iintro ⟨HO, Hz, Hs⟩
  ihave Hs := (Entails.of_eq (pay_rsR D c b s)) $$ Hs
  iapply (wp_loadW c oM eo (offO_inb _ b) (asmO T)) $$ Ho
  iintro Ho
  iapply (wp_loadS c (rsM b) s (rsC D b c)) $$ Hs
  iintro Hs
  iapply (wp_loadW c oM eo (offO_inb _ b) (asmO T)) $$ Ho
  iintro Ho
  iapply (wp_storeW c oM eo (asmO T)) $$ Ho
  iintro Ho
  iapply Hk
  isplitl [HO]; · iexact HO
  isplitl [Hz]; · iexact Hz
  isplitl [Hs]; · iexact Hs
  rw [window_asmO, hT, put_asmO, window_rsC]
  iexact Ho

theorem wp_sentRs (b : Bool) (s : Fin 7) (l : List (Cell × Bool)) (hl : ∀ y ∈ l, 0 < lvC y.1) {k : Prg F} {Q : PUnit.{1} → sProp 𝕄} :
    iprop(recs D K ∗ cred (tallyAt (kcell c (.inr (kRsS b s))) () (amtC (.inr (kRsS b s)))) ∗ ow c l ∗ atPos ER (kcell c (.inr (kRsS b s))) 0 ∅ 0)
      ⊢ iprop(((ow c l ∗ semVal (kcell c (.inr (kRsS b s))) 0 ∗ slotP (sgM b) s fullShare c (sgC D b c)) -∗ wpd c k Q) -∗ wpd c (sentRs b s k) Q) :=
  wp_waitKey D K c (kRsS b s) (src := slotM (rsM b) s) (dst := slotM (sgM b) s) (slotSg_credit b s) l 0 (le_refl _) hl (k' := fun _ => k) (Q := Q)

theorem wp_finish (b : Bool) {oo : Fin 2 → ℕ} {ho : ∀ a, oo a + S256x512.size a ≤ S2048x1024.size a} (eo : oo = offO (back b c 7) b)
    (T : Dev nD → Bool → Vec F S256x512 .f32) (hT : T (back b c 7) b = acc D b c 7) {k : Prg F} {Q : PUnit.{1} → sProp 𝕄} :
    iprop(wholeP oM fullShare c (asmO T) ∗ (∃ X, wholeP (stM b) fullShare c X))
      ⊢ iprop(((wholeP oM fullShare c (asmO T) ∗ wholeP (stM b) fullShare c (stC D b c)) -∗ wpd c k Q) -∗ wpd c (finish b oo ho k) Q) := by
  unfold finish
  iintro ⟨Ho, ⟨%X, Hs⟩⟩ Hk
  iapply (wp_loadW c oM eo (offO_inb _ b) (asmO T)) $$ Ho
  iintro Ho
  iapply (wp_loadFull c (stM b) X) $$ Hs
  iintro Hs
  iapply (wp_storeFull c (stM b) X (stC D b c) (congrArg k0_pay207 ((window_asmO T _ b).trans hT))) $$ Hs
  iintro Hs
  iapply Hk
  isplitl [Ho]; · iexact Ho
  iexact Hs

/-! ## The all-gather's pieces -/

theorem agC_next (b : Bool) (t : Fin 6) (r : Fin 256) (z : Fin 512) :
    agC D b (nb b c) (ix3 t.succ r z) = agC D b c (ix3 t.castSucc r z) := by
  show stC D b (back b (nb b c) (t.val + 1 + 1)) (ix2 r z) = stC D b (back b c (t.val + 1)) (ix2 r z)
  rw [back_nb]
theorem agC_first (b : Bool) (r : Fin 256) (z : Fin 512) : agC D b (nb b c) (ix3 0 r z) = stC D b c (ix2 r z) := by
  show stC D b (back b (nb b c) (0 + 1)) (ix2 r z) = stC D b c (ix2 r z)
  rw [back_nb]; rfl

theorem wp_sendFst (b : Bool) (p : Fin 4) {q : Dev nD} (hq : q = nb b c) (l : List (Cell × Bool)) {k : Prg F} {Q : PUnit.{1} → sProp 𝕄} :
    iprop(recs D K ∗ rowP (stM b) p fullShare c (stC D b c) ∗ (∃ X, pieceP (agM b) 0 p fullShare (nb b c) X) ∗ ow c ((.inr (kAgR b 0 p), false) :: l)
        ∗ dutyTok ER (kcell c (.inr (kAgS b 0 p))) 0 false ∗ dutyTok ER (kcell (nb b c) (.inr (kAgR b 0 p))) 0 false)
      ⊢ iprop(((ow c l ∗ cred (tallyAt (kcell c (.inr (kAgS b 0 p))) () (amtC (.inr (kAgS b 0 p))))) -∗ wpd c k Q) -∗ wpd c (sendFst b p q k) Q) := by
  subst hq
  unfold sendFst
  iintro ⟨HR, Hs, ⟨%X, Hd⟩, HO, Ht, Ht'⟩ Hk
  unfold rowP pieceP
  iapply (wp_sendKey D K c (kAgS b 0 p) (kAgR b 0 p) (q := nb b c) (src := rowM (stM b) p) (dst := pieceM (agM b) 0 p) (piece_credit b 0 p) rfl rfl l fullShare
    ((stM b).view.rep (stC D b c)) ((agM b).view.rep X) (Entails.refl _) (Entails.of_eq (by
      refine pts_congr_read (pieceM (agM b) 0 p).view (nb b c) fullShare _ _ ?_
      rw [View.read_write_univ, read_row, read_piece]
      exact funext fun y => (agC_first D c b _ _).symm))) $$ [HR Hs Hd HO Ht Ht']
  · isplitl [HR]; · iexact HR
    isplitl [Hs]; · iexact Hs
    isplitl [Hd]; · iexact Hd
    isplitl [HO]; · iexact HO
    isplitl [Ht]; · iexact Ht
    iexact Ht'
  iexact Hk

theorem wp_sendAg (b : Bool) (t : Fin 6) (p : Fin 4) {q : Dev nD} (hq : q = nb b c) (l : List (Cell × Bool)) {k : Prg F} {Q : PUnit.{1} → sProp 𝕄} :
    iprop(recs D K ∗ pieceP (agM b) t.castSucc p fullShare.left c (agC D b c) ∗ (∃ X, pieceP (agM b) t.succ p fullShare (nb b c) X)
        ∗ ow c ((.inr (kAgR b t.succ p), false) :: l)
        ∗ dutyTok ER (kcell c (.inr (kAgS b t.succ p))) 0 false ∗ dutyTok ER (kcell (nb b c) (.inr (kAgR b t.succ p))) 0 false)
      ⊢ iprop(((ow c l ∗ cred (tallyAt (kcell c (.inr (kAgS b t.succ p))) () (amtC (.inr (kAgS b t.succ p))))) -∗ wpd c k Q) -∗ wpd c (sendAg b t p q k) Q) := by
  subst hq
  unfold sendAg
  iintro ⟨HR, Hs, ⟨%X, Hd⟩, HO, Ht, Ht'⟩ Hk
  unfold pieceP
  iapply (wp_sendKey D K c (kAgS b t.succ p) (kAgR b t.succ p) (q := nb b c) (src := pieceM (agM b) t.castSucc p) (dst := pieceM (agM b) t.succ p) (piece_credit b t.succ p) rfl rfl l fullShare.left
    ((agM b).view.rep (agC D b c)) ((agM b).view.rep X) (Entails.refl _) (Entails.of_eq (by
      refine pts_congr_read (pieceM (agM b) t.succ p).view (nb b c) fullShare _ _ ?_
      rw [View.read_write_univ, read_piece, read_piece]
      exact funext fun y => (agC_next D c b t _ _).symm))) $$ [HR Hs Hd HO Ht Ht']
  · isplitl [HR]; · iexact HR
    isplitl [Hs]; · iexact Hs
    isplitl [Hd]; · iexact Hd
    isplitl [HO]; · iexact HO
    isplitl [Ht]; · iexact Ht
    iexact Ht'
  iexact Hk

theorem wp_recvAg (b : Bool) (t : Fin 7) (p : Fin 4) (l : List (Cell × Bool)) (hl : ∀ y ∈ l, 9 + t.val < lvC y.1) {k : Prg F} {Q : PUnit.{1} → sProp 𝕄} :
    iprop(recs D K ∗ cred (tallyAt (kcell c (.inr (kAgR b t p))) () (amtC (.inr (kAgR b t p)))) ∗ ow c l ∗ atPos ER (kcell c (.inr (kAgR b t p))) 0 ∅ 0)
      ⊢ iprop(((ow c l ∗ semVal (kcell c (.inr (kAgR b t p))) 0 ∗ pieceP (agM b) t p fullShare c (agC D b c)) -∗ wpd c k Q) -∗ wpd c (recvAg b t p k) Q) :=
  wp_waitKey D K c (kAgR b t p) (src := pieceM (agM b) t p) (dst := pieceM (agM b) t p) (piece_credit b t p) l (9 + t.val) (le_refl _) hl (k' := fun _ => k) (Q := Q)

theorem wp_sentFst (b : Bool) (p : Fin 4) (l : List (Cell × Bool)) (hl : ∀ y ∈ l, 0 < lvC y.1) {k : Prg F} {Q : PUnit.{1} → sProp 𝕄} :
    iprop(recs D K ∗ cred (tallyAt (kcell c (.inr (kAgS b 0 p))) () (amtC (.inr (kAgS b 0 p)))) ∗ ow c l ∗ atPos ER (kcell c (.inr (kAgS b 0 p))) 0 ∅ 0)
      ⊢ iprop(((ow c l ∗ semVal (kcell c (.inr (kAgS b 0 p))) 0 ∗ rowP (stM b) p fullShare c (stC D b c)) -∗ wpd c k Q) -∗ wpd c (sentFst b p k) Q) :=
  wp_waitKey D K c (kAgS b 0 p) (src := rowM (stM b) p) (dst := rowM (stM b) p) (row_credit b p) l 0 (le_refl _) hl (k' := fun _ => k) (Q := Q)

theorem wp_sentAg (b : Bool) (t : Fin 6) (p : Fin 4) (l : List (Cell × Bool)) (hl : ∀ y ∈ l, 0 < lvC y.1) {k : Prg F} {Q : PUnit.{1} → sProp 𝕄} :
    iprop(recs D K ∗ cred (tallyAt (kcell c (.inr (kAgS b t.succ p))) () (amtC (.inr (kAgS b t.succ p)))) ∗ ow c l ∗ atPos ER (kcell c (.inr (kAgS b t.succ p))) 0 ∅ 0)
      ⊢ iprop(((ow c l ∗ semVal (kcell c (.inr (kAgS b t.succ p))) 0 ∗ pieceP (agM b) t.castSucc p fullShare.left c (agC D b c)) -∗ wpd c k Q) -∗ wpd c (sentAg b t p k) Q) :=
  wp_waitKey D K c (kAgS b t.succ p) (src := pieceM (agM b) t.castSucc p) (dst := pieceM (agM b) t.castSucc p) (piece_credit b t.castSucc p) l 0 (le_refl _) hl (k' := fun _ => k) (Q := Q)

theorem wp_putAg (b : Bool) (t : Fin 7) {oo : Fin 2 → ℕ} {ho : ∀ a, oo a + S256x512.size a ≤ S2048x1024.size a}
    (eo : oo = offO (back b c t.val) b) (T : Dev nD → Bool → Vec F S256x512 .f32) (q : PosShare TreeShare)
    {k : Prg F} {Q : PUnit.{1} → sProp 𝕄} :
    iprop(slotP (agM b) t q c (agC D b c) ∗ wholeP oM fullShare c (asmO T))
      ⊢ iprop(((slotP (agM b) t q c (agC D b c) ∗ wholeP oM fullShare c (asmO (updO T (back b c t.val) b (got D b (back b c (t.val + 1)))))) -∗ wpd c k Q)
          -∗ wpd c (putAg b t oo ho k) Q) := by
  unfold putAg
  iintro ⟨Hs, Ho⟩ Hk
  iapply (wp_loadS c (agM b) t (agC D b c)) $$ Hs
  iintro Hs
  iapply (wp_loadW c oM eo (offO_inb _ b) (asmO T)) $$ Ho
  iintro Ho
  iapply (wp_storeW c oM eo (asmO T)) $$ Ho
  iintro Ho
  iapply Hk
  isplitl [Hs]; · iexact Hs
  rw [put_asmO, window_agC]
  iexact Ho

end Cert.KernelIdeal.Moe
-- ==== Proof.Body.lean ====
/- The phases of the body: the start and the barrier, a step of the reduce-scatter, the all-gather's hops, and the ends of the
   sends. -/
module

public import proofs.«01_k».proof.Proof.Steps

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (D : Dev nD → Ins F) (K : Dev nD × Cell → ℕ) (c : Dev nD)

/-! ## Small products -/

abbrev b2 (Φ : Bool → sProp 𝕄) : sProp 𝕄 := iprop(Φ false ∗ Φ true)
abbrev f4 (Φ : Fin 4 → sProp 𝕄) : sProp 𝕄 := iprop(Φ 0 ∗ Φ 1 ∗ Φ 2 ∗ Φ 3)
abbrev r7 (Φ : Fin 7 → sProp 𝕄) : sProp 𝕄 := iprop(Φ 0 ∗ Φ 1 ∗ Φ 2 ∗ Φ 3 ∗ Φ 4 ∗ Φ 5 ∗ Φ 6)
/-- One for each piece and direction. -/
abbrev a8 (Φ : Bool → Fin 4 → sProp 𝕄) : sProp 𝕄 := f4 fun p => b2 fun b => Φ b p

theorem b2_eq (Φ : Bool → sProp 𝕄) : bigSep Finset.univ Φ = b2 Φ := by
  rw [bigSep_univ_eq_bigSepL [false, true] (by decide) (by decide), bigSepL_cons_cons, bigSepL_singleton]; rfl
theorem f4_eq (Φ : Fin 4 → sProp 𝕄) : bigSep Finset.univ Φ = f4 Φ := by
  rw [bigSep_univ_eq_bigSepL [0, 1, 2, 3] (by decide) (by decide), bigSepL_cons_cons, bigSepL_cons_cons, bigSepL_cons_cons, bigSepL_singleton]; rfl
theorem r7_eq (Φ : Fin 7 → sProp 𝕄) : bigSep Finset.univ Φ = r7 Φ := by
  rw [bigSep_univ_eq_bigSepL [0, 1, 2, 3, 4, 5, 6] (by decide) (by decide), bigSepL_cons_cons, bigSepL_cons_cons, bigSepL_cons_cons, bigSepL_cons_cons,
    bigSepL_cons_cons, bigSepL_cons_cons, bigSepL_singleton]; rfl

/-! ## What a device holds of each transfer -/

/-- Of step `s` of the reduce-scatter at the start, -/
def rsIn0 (b : Bool) (s : Fin 7) : sProp 𝕄 :=
  iprop(atPos ER (kcell c (.inr (kRsS b s))) 0 ∅ 0 ∗ atPos ER (kcell c (.inr (kRsR b s))) 0 ∅ 0
    ∗ dutyTok ER (kcell c (.inr (kRsS b s))) 0 false ∗ dutyTok ER (kcell (nb b c) (.inr (kRsR b s))) 0 false
    ∗ cred (tallyAt (kcell c (.inr (kRsR b s))) () (amtC (.inr (kRsR b s)))))
/-- with the slots it stages in and sends to, -/
def rsIn (b : Bool) (s : Fin 7) : sProp 𝕄 :=
  iprop(rsIn0 c b s ∗ (∃ X, slotP (sgM b) s fullShare c X) ∗ ∃ X, slotP (rsM b) s fullShare (nb b c) X)
/-- after the step, -/
def rsOut (b : Bool) (s : Fin 7) : sProp 𝕄 :=
  iprop((atPos ER (kcell c (.inr (kRsS b s))) 0 ∅ 0 ∗ cred (tallyAt (kcell c (.inr (kRsS b s))) () (amtC (.inr (kRsS b s)))))
    ∗ semVal (kcell c (.inr (kRsR b s))) 0 ∗ slotP (rsM b) s fullShare c (rsC D b c))
/-- and after the end of its sending. -/
def rsEnd (b : Bool) (s : Fin 7) : sProp 𝕄 :=
  iprop((semVal (kcell c (.inr (kRsS b s))) 0 ∗ slotP (sgM b) s fullShare c (sgC D b c))
    ∗ semVal (kcell c (.inr (kRsR b s))) 0 ∗ slotP (rsM b) s fullShare c (rsC D b c))

/-- Of piece `p` of hop `t` of the all-gather at the start, -/
def agIn0 (b : Bool) (t : Fin 7) (p : Fin 4) : sProp 𝕄 :=
  iprop(atPos ER (kcell c (.inr (kAgS b t p))) 0 ∅ 0 ∗ atPos ER (kcell c (.inr (kAgR b t p))) 0 ∅ 0
    ∗ dutyTok ER (kcell c (.inr (kAgS b t p))) 0 false ∗ dutyTok ER (kcell (nb b c) (.inr (kAgR b t p))) 0 false
    ∗ cred (tallyAt (kcell c (.inr (kAgR b t p))) () (amtC (.inr (kAgR b t p)))))
/-- with the piece it sends to, -/
def agIn (b : Bool) (t : Fin 7) (p : Fin 4) : sProp 𝕄 :=
  iprop(agIn0 c b t p ∗ ∃ X, pieceP (agM b) t p fullShare (nb b c) X)
/-- after the send, -/
def agS (b : Bool) (t : Fin 7) (p : Fin 4) : sProp 𝕄 :=
  iprop(atPos ER (kcell c (.inr (kAgS b t p))) 0 ∅ 0 ∗ cred (tallyAt (kcell c (.inr (kAgS b t p))) () (amtC (.inr (kAgS b t p)))))
def agMid (b : Bool) (t : Fin 7) (p : Fin 4) : sProp 𝕄 :=
  iprop(agS c b t p ∗ atPos ER (kcell c (.inr (kAgR b t p))) 0 ∅ 0 ∗ cred (tallyAt (kcell c (.inr (kAgR b t p))) () (amtC (.inr (kAgR b t p)))))
/-- and after the arrival. -/
def agOut (b : Bool) (t : Fin 7) (p : Fin 4) : sProp 𝕄 :=
  iprop(agS c b t p ∗ semVal (kcell c (.inr (kAgR b t p))) 0)

/-! ## The result's buffer -/

/-- In the reduce-scatter before step `n`: the running sums of the tiles to be sent. -/
def oRS (n : ℕ) : sProp 𝕄 :=
  iprop(∃ T : Dev nD → Bool → Vec F S256x512 .f32, ⌜∀ b, T (back b c n) b = acc D b c n⌝ ∗ wholeP oM fullShare c (asmO T))
/-- In the all-gather before hop `n`: the finished chunk, and the chunks that have arrived. -/
def oAG (n : ℕ) : sProp 𝕄 :=
  iprop(∃ T : Dev nD → Bool → Vec F S256x512 .f32,
    ⌜∀ b, T (back b c 7) b = acc D b c 7 ∧ ∀ j : Fin 8, j.val < n → T (back b c j.val) b = got D b (back b c (j.val + 1))⌝ ∗ wholeP oM fullShare c (asmO T))

theorem lt_cons {n : ℕ} {x : Cell} {u : Bool} {l : List (Cell × Bool)} (hx : n < lvC x) (hl : ∀ y ∈ l, n < lvC y.1) : ∀ y ∈ (x, u) :: l, n < lvC y.1 := by
  intro y hy
  rcases List.mem_cons.mp hy with rfl | h
  · exact hx
  · exact hl y h

/-! ## The start -/

/-- What a signal to device `d`'s barrier hands over. -/
theorem pay_bar (d : Dev nD) (u : Bool) : pay D cBar d u = (Rd D).payload ((d : Thread nD τ), SemLoc.reg barS) 0 u := (payload_cell D d cBar u).symm

theorem wp_front (X0 X1 X2 X3 : Vec F S7x256x512 .bf16) (Xw : Vec F S2048x8 .bf16) (Xb : Vec F S2048x512 .bf16) {k : Prg F} {Q : PUnit.{1} → sProp 𝕄} :
    iprop(recs D K ∗ ow c lAll ∗ dutyTok ER (kcell (prv c) cBar) 0 false ∗ dutyTok ER (kcell (nxt c) cBar) 0 true
        ∗ wholeP (rsM false) fullShare c X0 ∗ wholeP (rsM true) fullShare c X1 ∗ wholeP (agM false) fullShare c X2 ∗ wholeP (agM true) fullShare c X3
        ∗ wholeP xM fullShare c (D c).x ∗ wholeP rM fullShare c (D c).r ∗ wholeP iM fullShare c (D c).i
        ∗ wholeP wM fullShare c Xw ∗ wholeP bM fullShare c Xb)
      ⊢ iprop(((ow c lR0 ∗ wholeP xM fullShare c (D c).x ∗ wholeP rM fullShare c (D c).r ∗ wholeP iM fullShare c (D c).i
            ∗ wholeP wM fullShare c (wtsOf D c) ∗ wholeP bM fullShare c (rowsOf D c)) -∗ wpd c k Q) -∗ wpd c (front c k) Q) := by
  unfold front ow
  iintro ⟨#HR, ⟨%W, HO⟩, HtP, HtN, H0, H1, H2, H3, Hx, Hr, Hi, Hw, Hb⟩ Hk
  rw [dev1_eq c, dev2_eq c]
  iapply (Rounds.wp_signal 𝒱₀ ER (Rd D) (c : Thread nD τ) none (dst := (prv c : Thread nD τ)) (κ := K (prv c, cBar)) (r := 0)
      (d := false) (by show false ∈ (Rd D).duties (kcell (prv c) cBar) 0; rw [duties_cell]; exact Finset.mem_univ _)
      ((amount_cell D (prv c) cBar false).trans (by decide)) () (owedL c ((cBar, true) :: lR0)) rfl) $$ [HO HtP H0 H2]
  · isplitr; · iapply (recs_inv D K (prv c) cBar) $$ HR
    isplitl [HO]; · iexact HO
    isplitl [HtP]; · iexact HtP
    isplitl [H0 H2]
    · iapply (Entails.of_eq (pay_bar D (prv c) false))
      have e : nb false (prv c) = c := nxt_prv c
      unfold pay
      rw [e]
      isplitl [H0]
      · iexists _; iexact H0
      · iexists _; iexact H2
    · iapply (recs_reached D K (prv c) cBar) $$ HR
  iintro HO
  iapply (Rounds.wp_signal 𝒱₀ ER (Rd D) (c : Thread nD τ) none (dst := (nxt c : Thread nD τ)) (κ := K (nxt c, cBar)) (r := 0)
      (d := true) (by show true ∈ (Rd D).duties (kcell (nxt c) cBar) 0; rw [duties_cell]; exact Finset.mem_univ _)
      ((amount_cell D (nxt c) cBar true).trans (by decide)) () (owedL c lR0) rfl) $$ [HO HtN H1 H3]
  · isplitr; · iapply (recs_inv D K (nxt c) cBar) $$ HR
    isplitl [HO]; · iexact HO
    isplitl [HtN]; · iexact HtN
    isplitl [H1 H3]
    · iapply (Entails.of_eq (pay_bar D (nxt c) true))
      have e : nb true (nxt c) = c := prv_nxt c
      unfold pay
      rw [e]
      isplitl [H1]
      · iexists _; iexact H1
      · iexists _; iexact H3
    · iapply (recs_reached D K (nxt c) cBar) $$ HR
  iintro HO
  iapply (wp_loadFull c xM (D c).x) $$ Hx
  iintro Hx
  iapply (wp_loadFull c rM (D c).r) $$ Hr
  iintro Hr
  iapply (wp_loadW c iM rfl inb_S2048x2_S2048x1_0_0 (D c).i) $$ Hi
  iintro Hi
  iapply (wp_loadW c iM rfl inb_S2048x2_S2048x1_0_1 (D c).i) $$ Hi
  iintro Hi
  iapply (wp_loadFull c wM Xw) $$ Hw
  iintro Hw
  iapply (wp_storeFull c wM Xw (wtsOf D c) rfl) $$ Hw
  iintro Hw
  iapply (wp_loadFull c bM Xb) $$ Hb
  iintro Hb
  iapply (wp_storeFull c bM Xb (rowsOf D c) rfl) $$ Hb
  iintro Hb
  iapply Hk
  isplitl [HO]; · iexists _; iexact HO
  isplitl [Hx]; · iexact Hx
  isplitl [Hr]; · iexact Hr
  isplitl [Hi]; · iexact Hi
  isplitl [Hw]; · iexact Hw
  iexact Hb

theorem wp_barrier (l : List (Cell × Bool)) (hl : ∀ y ∈ l, 1 < lvC y.1) {k : Prg F} {Q : PUnit.{1} → sProp 𝕄} :
    iprop(recs D K ∗ ow c l ∗ cred (tallyAt (kcell c cBar) () 2) ∗ atPos ER (kcell c cBar) 0 ∅ 0)
      ⊢ iprop(((ow c l ∗ semVal (kcell c cBar) 0 ∗ pay D cBar c false ∗ pay D cBar c true) -∗ wpd c k Q) -∗ wpd c (barrier k) Q) := by
  unfold barrier ow
  iintro ⟨#HR, ⟨%W, HO⟩, Hc, Hat⟩ Hk
  ihave #HI := (recs_inv D K c cBar) $$ HR
  iapply (Rounds.wp_wait_rest_token 𝒱₀ ER (Rd D) (c : Thread nD τ) none (κ := K (c, cBar)) (sm := cellSem cBar)
      (wpE_semWait_eq 𝒱₀ (c : Thread nD τ) none Set.univ) (Set.mem_univ _) () (O := owedL c l) (W := W) (R := 0) (m := 0) (T := ∅)
      (by show _ = (Rd D).expect (kcell c cBar) 0; rw [expect_bar]; decide)) $$ [Hc HO Hat]
  · isplitr; · iexact HI
    isplitl [Hc]; · iexact Hc
    isplitl [HO]; · iexact HO
    isplitr
    · iapply (mayWait c cBar l 1 (le_refl _) hl)
      iapply (recs_lev D K) $$ HR
    iexact Hat
  iintro ⟨HO, Hat, -, Hpay⟩
  imod (Rounds.cell_close ER (Rd D) (Set.mem_univ (K (c, cBar))) (fun h => h) (R := 0 + 1) (duties_later D (kcell c cBar))) $$ [Hat] with Hz
  · isplitr; · iexact HI
    iexact Hat
  iapply Hk
  isplitl [HO]; · iexists _; iexact HO
  isplitl [Hz]; · iexact Hz
  iapply (Entails.of_eq (rest_bar D c)); iexact Hpay

/-! ## The reduce-scatter -/

theorem wp_rsStep (s : Fin 7) {qn qp : Dev nD} (hn : qn = nb false c) (hp : qp = nb true c) (l : List (Cell × Bool)) (hl : ∀ y ∈ l, 2 + s.val < lvC y.1)
    {k : Prg F} {Q : PUnit.{1} → sProp 𝕄} :
    iprop(recs D K ∗ mem D c ∗ oRS D c s.val ∗ ow c (oRs s l) ∗ rsIn c false s ∗ rsIn c true s)
      ⊢ iprop(((mem D c ∗ oRS D c (s.val + 1) ∗ ow c l ∗ rsOut D c false s ∗ rsOut D c true s) -∗ wpd c k Q) -∗ wpd c (rsStep c s qn qp k) Q) := by
  unfold rsStep oRS rsIn rsIn0
  iintro ⟨#HR, Hm, ⟨%T, %hT, Ho⟩, HO, ⟨⟨HaS, HaR, HtS, HtR, HcR⟩, Hsg, Hrs⟩, ⟨HaS', HaR', HtS', HtR', HcR'⟩, Hsg', Hrs'⟩ Hk
  iapply (wp_stage D c false s (back false c s.val) (off5_eq c s) T (hT false)) $$ [Ho Hsg]
  · isplitl [Ho] <;> iassumption
  iintro ⟨Ho, Hsg⟩
  iapply (wp_stage D c true s (back true c s.val) (off6_eq c s) T (hT true)) $$ [Ho Hsg']
  · isplitl [Ho] <;> iassumption
  iintro ⟨Ho, Hsg'⟩
  iapply (wp_sendRs D K c false s hn ((.inr (kRsR true s), false) :: l)) $$ [Hsg Hrs HO HtS HtR]
  · isplitr; · iexact HR
    isplitl [Hsg]; · iexact Hsg
    isplitl [Hrs]; · iexact Hrs
    isplitl [HO]; · iexact HO
    isplitl [HtS]; · iexact HtS
    iexact HtR
  iintro ⟨HO, HcS⟩
  iapply (wp_sendRs D K c true s hp l) $$ [Hsg' Hrs' HO HtS' HtR']
  · isplitr; · iexact HR
    isplitl [Hsg']; · iexact Hsg'
    isplitl [Hrs']; · iexact Hrs'
    isplitl [HO]; · iexact HO
    isplitl [HtS']; · iexact HtS'
    iexact HtR'
  iintro ⟨HO, HcS'⟩
  iapply (wp_half D c (back false c (s.val + 1)) false (off7_eq c s) (off8_eq c s) rfl (off9_eq c s) T) $$ [Hm Ho]
  · isplitl [Hm] <;> iassumption
  iintro ⟨Hm, Ho⟩
  iapply (wp_half D c (back true c (s.val + 1)) true (off10_eq c s) (off11_eq c s) rfl (off12_eq c s) _) $$ [Hm Ho]
  · isplitl [Hm] <;> iassumption
  iintro ⟨Hm, Ho⟩
  iapply (wp_recvRs D K c false s (off9_eq c s)
    (updO (updO T (back false c (s.val + 1)) false (part D c (back false c (s.val + 1)) false)) (back true c (s.val + 1)) true (part D c (back true c (s.val + 1)) true))
    (by rw [updO_ne _ _ (.inr (by decide)), updO_same]) l hl) $$ [HcR HO HaR Ho]
  · isplitr; · iexact HR
    isplitl [HcR]; · iexact HcR
    isplitl [HO]; · iexact HO
    isplitl [HaR]; · iexact HaR
    iexact Ho
  iintro ⟨HO, HzR, Hrs, Ho⟩
  iapply (wp_recvRs D K c true s (off12_eq c s)
    (updO (updO (updO T (back false c (s.val + 1)) false (part D c (back false c (s.val + 1)) false)) (back true c (s.val + 1)) true
      (part D c (back true c (s.val + 1)) true)) (back false c (s.val + 1)) false (acc D false c (s.val + 1)))
    (by rw [updO_ne _ _ (.inr (by decide)), updO_same]) l hl) $$ [HcR' HO HaR' Ho]
  · isplitr; · iexact HR
    isplitl [HcR']; · iexact HcR'
    isplitl [HO]; · iexact HO
    isplitl [HaR']; · iexact HaR'
    iexact Ho
  iintro ⟨HO, HzR', Hrs', Ho⟩
  iapply Hk
  isplitl [Hm]; · iexact Hm
  isplitl [Ho]
  · iexists (updO (updO (updO (updO T (back false c (s.val + 1)) false (part D c (back false c (s.val + 1)) false)) (back true c (s.val + 1)) true
      (part D c (back true c (s.val + 1)) true)) (back false c (s.val + 1)) false (acc D false c (s.val + 1))) (back true c (s.val + 1)) true (acc D true c (s.val + 1)))
    isplitr
    · ipureintro
      intro b
      cases b
      · rw [updO_ne _ _ (.inr (by decide)), updO_same]
      · rw [updO_same]
    · iexact Ho
  isplitl [HO]; · iexact HO
  unfold rsOut
  isplitl [HaS HcS HzR Hrs]
  · isplitl [HaS HcS]; · isplitl [HaS] <;> iassumption
    isplitl [HzR] <;> iassumption
  · isplitl [HaS' HcS']; · isplitl [HaS'] <;> iassumption
    isplitl [HzR'] <;> iassumption

/-- The end of the sending of one slot. -/
theorem wp_sentRs' (b : Bool) (s : Fin 7) (l : List (Cell × Bool)) (hl : ∀ y ∈ l, 0 < lvC y.1) {k : Prg F} {Q : PUnit.{1} → sProp 𝕄} :
    iprop(recs D K ∗ ow c l ∗ rsOut D c b s) ⊢ iprop(((ow c l ∗ rsEnd D c b s) -∗ wpd c k Q) -∗ wpd c (sentRs b s k) Q) := by
  unfold rsOut rsEnd
  iintro ⟨HR, HO, ⟨Ha, Hc⟩, H⟩ Hk
  iapply (wp_sentRs D K c b s l hl) $$ [HR HO Ha Hc]
  · isplitl [HR]; · iexact HR
    isplitl [Hc]; · iexact Hc
    isplitl [HO]; · iexact HO
    iexact Ha
  iintro ⟨HO, H'⟩
  iapply Hk
  isplitl [HO]; · iexact HO
  isplitl [H'] <;> iassumption

/-- The ends of both directions' sendings of one slot. -/
theorem wp_sentRs2 (s : Fin 7) (l : List (Cell × Bool)) (hl : ∀ y ∈ l, 0 < lvC y.1) {k : Prg F} {Q : PUnit.{1} → sProp 𝕄} :
    iprop(recs D K ∗ ow c l ∗ rsOut D c false s ∗ rsOut D c true s)
      ⊢ iprop(((ow c l ∗ rsEnd D c false s ∗ rsEnd D c true s) -∗ wpd c k Q) -∗ wpd c (sentRs false s <| sentRs true s k) Q) := by
  iintro ⟨#HR, HO, H, H'⟩ Hk
  iapply (wp_sentRs' D K c false s l hl) $$ [HO H]
  · isplitr; · iexact HR
    isplitl [HO] <;> iassumption
  iintro ⟨HO, H⟩
  iapply (wp_sentRs' D K c true s l hl) $$ [HO H']
  · isplitr; · iexact HR
    isplitl [HO] <;> iassumption
  iintro ⟨HO, H'⟩
  iapply Hk
  isplitl [HO]; · iexact HO
  isplitl [H] <;> iassumption

theorem wp_middle (l : List (Cell × Bool)) (hl : ∀ y ∈ l, 0 < lvC y.1) {k : Prg F} {Q : PUnit.{1} → sProp 𝕄} :
    iprop(recs D K ∗ ow c l ∗ (r7 fun s => b2 fun b => rsOut D c b s) ∗ oRS D c 7 ∗ (∃ X, wholeP (stM false) fullShare c X) ∗ (∃ X, wholeP (stM true) fullShare c X))
      ⊢ iprop(((ow c l ∗ (r7 fun s => b2 fun b => rsEnd D c b s) ∗ oAG D c 0 ∗ wholeP (stM false) fullShare c (stC D false c) ∗ wholeP (stM true) fullShare c (stC D true c))
          -∗ wpd c k Q) -∗ wpd c (middle c k) Q) := by
  unfold middle oRS
  iintro ⟨#HR, HO, ⟨H0, H1, H2, H3, H4, H5, H6⟩, ⟨%T, %hT, Ho⟩, Hs, Hs'⟩ Hk
  iapply (wp_sentRs2 D K c 0 l hl) $$ [HO H0]
  · isplitr; · iexact HR
    isplitl [HO] <;> iassumption
  iintro ⟨HO, H0⟩
  iapply (wp_sentRs2 D K c 1 l hl) $$ [HO H1]
  · isplitr; · iexact HR
    isplitl [HO] <;> iassumption
  iintro ⟨HO, H1⟩
  iapply (wp_sentRs2 D K c 2 l hl) $$ [HO H2]
  · isplitr; · iexact HR
    isplitl [HO] <;> iassumption
  iintro ⟨HO, H2⟩
  iapply (wp_sentRs2 D K c 3 l hl) $$ [HO H3]
  · isplitr; · iexact HR
    isplitl [HO] <;> iassumption
  iintro ⟨HO, H3⟩
  iapply (wp_sentRs2 D K c 4 l hl) $$ [HO H4]
  · isplitr; · iexact HR
    isplitl [HO] <;> iassumption
  iintro ⟨HO, H4⟩
  iapply (wp_sentRs2 D K c 5 l hl) $$ [HO H5]
  · isplitr; · iexact HR
    isplitl [HO] <;> iassumption
  iintro ⟨HO, H5⟩
  iapply (wp_sentRs2 D K c 6 l hl) $$ [HO H6]
  · isplitr; · iexact HR
    isplitl [HO] <;> iassumption
  iintro ⟨HO, H6⟩
  iapply (wp_finish D c false (off13_eq c) T (hT false)) $$ [Ho Hs]
  · isplitl [Ho] <;> iassumption
  iintro ⟨Ho, Hs⟩
  iapply (wp_finish D c true (off14_eq c) T (hT true)) $$ [Ho Hs']
  · isplitl [Ho] <;> iassumption
  iintro ⟨Ho, Hs'⟩
  iapply Hk
  isplitl [HO]; · iexact HO
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [Ho]
  · unfold oAG
    iexists T
    isplitr
    · ipureintro
      exact fun b => ⟨hT b, fun j hj => absurd hj (Nat.not_lt_zero _)⟩
    · iexact Ho
  isplitl [Hs] <;> iassumption

/-! ## The all-gather -/

/-- The first send of one piece, one direction. -/
theorem wp_sendFst' (b : Bool) (p : Fin 4) {q : Dev nD} (hq : q = nb b c) (l : List (Cell × Bool)) {k : Prg F} {Q : PUnit.{1} → sProp 𝕄} :
    iprop(recs D K ∗ ow c ((.inr (kAgR b 0 p), false) :: l) ∗ agIn c b 0 p ∗ rowP (stM b) p fullShare c (stC D b c))
      ⊢ iprop(((ow c l ∗ agMid c b 0 p) -∗ wpd c k Q) -∗ wpd c (sendFst b p q k) Q) := by
  unfold agIn agIn0 agMid agS
  iintro ⟨HR, HO, ⟨⟨HaS, HaR, HtS, HtR, HcR⟩, Hd⟩, Hs⟩ Hk
  iapply (wp_sendFst D K c b p hq l) $$ [HR HO HtS HtR Hd Hs]
  · isplitl [HR]; · iexact HR
    isplitl [Hs]; · iexact Hs
    isplitl [Hd]; · iexact Hd
    isplitl [HO]; · iexact HO
    isplitl [HtS] <;> iassumption
  iintro ⟨HO, HcS⟩
  iapply Hk
  isplitl [HO]; · iexact HO
  isplitl [HaS HcS]; · isplitl [HaS] <;> iassumption
  isplitl [HaR] <;> iassumption

theorem wp_first (p : Fin 4) (l : List (Cell × Bool)) {k : Prg F} {Q : PUnit.{1} → sProp 𝕄} :
    iprop(recs D K ∗ ow c (oPc 0 p l) ∗ (b2 fun b => agIn c b 0 p) ∗ (b2 fun b => rowP (stM b) p fullShare c (stC D b c)))
      ⊢ iprop(((ow c l ∗ b2 fun b => agMid c b 0 p) -∗ wpd c k Q) -∗ wpd c (first c p k) Q) := by
  unfold first
  iintro ⟨#HR, HO, ⟨H, H'⟩, Hs, Hs'⟩ Hk
  iapply (wp_sendFst' D K c false p (agNext_eq c 0 p) ((.inr (kAgR true 0 p), false) :: l)) $$ [HO H Hs]
  · isplitr; · iexact HR
    isplitl [HO]; · iexact HO
    isplitl [H] <;> iassumption
  iintro ⟨HO, H⟩
  iapply (wp_sendFst' D K c true p (agPrev_eq c 0 p) l) $$ [HO H' Hs']
  · isplitr; · iexact HR
    isplitl [HO]; · iexact HO
    isplitl [H'] <;> iassumption
  iintro ⟨HO, H'⟩
  iapply Hk
  isplitl [HO]; · iexact HO
  isplitl [H] <;> iassumption

/-- One piece of one hop, one direction. -/
theorem wp_hop1 (b : Bool) (t : Fin 6) (p : Fin 4) {q : Dev nD} (hq : q = nb b c) (l : List (Cell × Bool)) (hl : ∀ y ∈ l, 9 + t.val < lvC y.1)
    {k : Prg F} {Q : PUnit.{1} → sProp 𝕄} :
    iprop(recs D K ∗ ow c ((.inr (kAgR b t.succ p), false) :: l) ∗ agMid c b t.castSucc p ∗ agIn c b t.succ p)
      ⊢ iprop(((ow c l ∗ agOut c b t.castSucc p ∗ pieceP (agM b) t.castSucc p fullShare.right c (agC D b c) ∗ agMid c b t.succ p) -∗ wpd c k Q)
          -∗ wpd c (recvAg b t.castSucc p <| sendAg b t p q k) Q) := by
  unfold agMid agIn agIn0 agOut
  iintro ⟨#HR, HO, ⟨HS, HaR0, HcR0⟩, ⟨HaS, HaR, HtS, HtR, HcR⟩, Hd⟩ Hk
  iapply (wp_recvAg D K c b t.castSucc p ((.inr (kAgR b t.succ p), false) :: l)
      (lt_cons (show 9 + t.val < 9 + (t.val + 1) by omega) hl)) $$ [HO HaR0 HcR0]
  · isplitr; · iexact HR
    isplitl [HcR0]; · iexact HcR0
    isplitl [HO]; · iexact HO
    iexact HaR0
  iintro ⟨HO, Hz, Hp⟩
  ihave Hp := (piece_halves (agM b) t.castSucc p c (agC D b c)).1 $$ Hp
  icases Hp with ⟨Hl, Hr⟩
  iapply (wp_sendAg D K c b t p hq l) $$ [HO HtS HtR Hd Hl]
  · isplitr; · iexact HR
    isplitl [Hl]; · iexact Hl
    isplitl [Hd]; · iexact Hd
    isplitl [HO]; · iexact HO
    isplitl [HtS] <;> iassumption
  iintro ⟨HO, HcS⟩
  iapply Hk
  isplitl [HO]; · iexact HO
  isplitl [HS Hz]; · isplitl [HS] <;> iassumption
  isplitl [Hr]; · iexact Hr
  unfold agS
  isplitl [HaS HcS]; · isplitl [HaS] <;> iassumption
  isplitl [HaR] <;> iassumption

theorem wp_hop (t : Fin 6) (p : Fin 4) {qn qp : Dev nD} (hn : qn = nb false c) (hp : qp = nb true c) (l : List (Cell × Bool)) (hl : ∀ y ∈ l, 9 + t.val < lvC y.1)
    {k : Prg F} {Q : PUnit.{1} → sProp 𝕄} :
    iprop(recs D K ∗ ow c (oPc t.succ p l) ∗ (b2 fun b => agMid c b t.castSucc p) ∗ (b2 fun b => agIn c b t.succ p))
      ⊢ iprop(((ow c l ∗ (b2 fun b => agOut c b t.castSucc p)
            ∗ (pieceP (agM false) t.castSucc p fullShare.right c (agC D false c) ∗ pieceP (agM true) t.castSucc p fullShare.right c (agC D true c))
            ∗ b2 fun b => agMid c b t.succ p) -∗ wpd c k Q) -∗ wpd c (hop t p qn qp k) Q) := by
  unfold hop
  iintro ⟨#HR, HO, ⟨Hm, Hm'⟩, Hi, Hi'⟩ Hk
  iapply (wp_hop1 D K c false t p hn ((.inr (kAgR true t.succ p), false) :: l) (lt_cons (show 9 + t.val < 9 + (t.val + 1) by omega) hl)) $$ [HO Hm Hi]
  · isplitr; · iexact HR
    isplitl [HO]; · iexact HO
    isplitl [Hm] <;> iassumption
  iintro ⟨HO, Ho, Hp, Hm⟩
  iapply (wp_hop1 D K c true t p hp l hl) $$ [HO Hm' Hi']
  · isplitr; · iexact HR
    isplitl [HO]; · iexact HO
    isplitl [Hm'] <;> iassumption
  iintro ⟨HO, Ho', Hp', Hm'⟩
  iapply Hk
  isplitl [HO]; · iexact HO
  isplitl [Ho Ho']; · isplitl [Ho] <;> iassumption
  isplitl [Hp Hp']; · isplitl [Hp] <;> iassumption
  isplitl [Hm] <;> iassumption

theorem ag_step_inv {T : Dev nD → Bool → Vec F S256x512 .f32} (t : Fin 7)
    (hT : ∀ b, T (back b c 7) b = acc D b c 7 ∧ ∀ j : Fin 8, j.val < t.val → T (back b c j.val) b = got D b (back b c (j.val + 1))) :
    ∀ b, updO (updO T (back false c t.val) false (got D false (back false c (t.val + 1)))) (back true c t.val) true (got D true (back true c (t.val + 1))) (back b c 7) b
        = acc D b c 7
      ∧ ∀ j : Fin 8, j.val < t.val + 1 →
        updO (updO T (back false c t.val) false (got D false (back false c (t.val + 1)))) (back true c t.val) true (got D true (back true c (t.val + 1))) (back b c j.val) b
          = got D b (back b c (j.val + 1)) := by
  have ht := t.isLt
  have ne : ∀ (b : Bool) (j : Fin 8), j.val ≠ t.val → back b c j.val ≠ back b c t.val := fun b j hj h =>
    hj (congrArg Fin.val (back_inj b c j ⟨t.val, by omega⟩ h))
  intro b
  have key : ∀ j : Fin 8, j.val ≠ t.val →
      updO (updO T (back false c t.val) false (got D false (back false c (t.val + 1)))) (back true c t.val) true (got D true (back true c (t.val + 1))) (back b c j.val) b
        = T (back b c j.val) b := by
    intro j hj
    cases b
    · rw [updO_ne _ _ (.inr (by decide)), updO_ne _ _ (.inl (ne false j hj))]
    · rw [updO_ne _ _ (.inl (ne true j hj)), updO_ne _ _ (.inr (by decide))]
  refine ⟨(key 7 (by show 7 ≠ t.val; omega)).trans (hT b).1, fun j hj => ?_⟩
  by_cases h : j.val = t.val
  · rw [h]
    cases b
    · rw [updO_ne _ _ (.inr (by decide)), updO_same]
    · rw [updO_same]
  · exact (key j h).trans ((hT b).2 j (by omega))

theorem wp_putBoth (t : Fin 7) (q : PosShare TreeShare) {k : Prg F} {Q : PUnit.{1} → sProp 𝕄} :
    iprop(oAG D c t.val ∗ slotP (agM false) t q c (agC D false c) ∗ slotP (agM true) t q c (agC D true c))
      ⊢ iprop(((oAG D c (t.val + 1) ∗ slotP (agM false) t q c (agC D false c) ∗ slotP (agM true) t q c (agC D true c)) -∗ wpd c k Q)
          -∗ wpd c (putBoth c t k) Q) := by
  unfold putBoth oAG
  iintro ⟨⟨%T, %hT, Ho⟩, Hs, Hs'⟩ Hk
  iapply (wp_putAg D c false t (off15_eq c t) T q) $$ [Hs Ho]
  · isplitl [Hs] <;> iassumption
  iintro ⟨Hs, Ho⟩
  iapply (wp_putAg D c true t (off16_eq c t) _ q) $$ [Hs' Ho]
  · isplitl [Hs'] <;> iassumption
  iintro ⟨Hs', Ho⟩
  iapply Hk
  isplitl [Ho]
  · iexists (updO (updO T (back false c t.val) false (got D false (back false c (t.val + 1)))) (back true c t.val) true (got D true (back true c (t.val + 1))))
    isplitr
    · ipureintro
      exact ag_step_inv D c t hT
    · iexact Ho
  isplitl [Hs] <;> iassumption

/-- A slot is its four pieces. -/
theorem slot_f4 (m : Memref sig .tc .vmem S7x256x512 .bf16) (t : Fin 7) (q : PosShare TreeShare) (X : S7x256x512.Idx → Elt F .bf16) :
    slotP m t q c X = f4 fun p => pieceP m t p q c X := (slot_pieces m t q c X).trans (f4_eq _)

theorem wp_put8 (t : Fin 7) (q : PosShare TreeShare) {k : Prg F} {Q : PUnit.{1} → sProp 𝕄} :
    iprop(oAG D c t.val ∗ a8 fun b p => pieceP (agM b) t p q c (agC D b c))
      ⊢ iprop(((oAG D c (t.val + 1) ∗ a8 fun b p => pieceP (agM b) t p q c (agC D b c)) -∗ wpd c k Q) -∗ wpd c (putBoth c t k) Q) := by
  iintro ⟨Ho, ⟨H0, H0'⟩, ⟨H1, H1'⟩, ⟨H2, H2'⟩, H3, H3'⟩ Hk
  iapply (wp_putBoth D c t q) $$ [Ho H0 H0' H1 H1' H2 H2' H3 H3']
  · isplitl [Ho]; · iexact Ho
    rw [slot_f4, slot_f4]
    isplitl [H0 H1 H2 H3]
    · isplitl [H0]; · iexact H0
      isplitl [H1]; · iexact H1
      isplitl [H2] <;> iassumption
    · isplitl [H0']; · iexact H0'
      isplitl [H1']; · iexact H1'
      isplitl [H2'] <;> iassumption
  rw [slot_f4, slot_f4]
  iintro ⟨Ho, ⟨H0, H1, H2, H3⟩, H0', H1', H2', H3'⟩
  iapply Hk
  isplitl [Ho]; · iexact Ho
  isplitl [H0 H0']; · isplitl [H0] <;> iassumption
  isplitl [H1 H1']; · isplitl [H1] <;> iassumption
  isplitl [H2 H2']; · isplitl [H2] <;> iassumption
  isplitl [H3] <;> iassumption

theorem wp_agStep (t : Fin 6) (l : List (Cell × Bool)) (hl : ∀ y ∈ l, 9 + t.val < lvC y.1) {k : Prg F} {Q : PUnit.{1} → sProp 𝕄} :
    iprop(recs D K ∗ ow c (oAg t.succ l) ∗ oAG D c t.val ∗ (a8 fun b p => agMid c b t.castSucc p) ∗ a8 fun b p => agIn c b t.succ p)
      ⊢ iprop(((ow c l ∗ oAG D c (t.val + 1) ∗ (a8 fun b p => agOut c b t.castSucc p)
            ∗ (a8 fun b p => pieceP (agM b) t.castSucc p fullShare.right c (agC D b c)) ∗ a8 fun b p => agMid c b t.succ p) -∗ wpd c k Q)
          -∗ wpd c (agStep c t k) Q) := by
  have h1 : 9 + t.val < 9 + (t.val + 1) := by omega
  have cons : ∀ (p : Fin 4) {l : List (Cell × Bool)}, (∀ y ∈ l, 9 + t.val < lvC y.1) → ∀ y ∈ oPc t.succ p l, 9 + t.val < lvC y.1 :=
    fun p _ h => lt_cons h1 (lt_cons h1 h)
  unfold agStep
  iintro ⟨#HR, HO, Ho, ⟨Hm0, Hm1, Hm2, Hm3⟩, Hi0, Hi1, Hi2, Hi3⟩ Hk
  iapply (wp_hop D K c t 0 (agNext_eq c _ _) (agPrev_eq c _ _) _ (cons 1 (cons 2 (cons 3 hl)))) $$ [HO Hm0 Hi0]
  · isplitr; · iexact HR
    isplitl [HO]; · iexact HO
    isplitl [Hm0] <;> iassumption
  iintro ⟨HO, Ho0, Hp0, Hm0⟩
  iapply (wp_hop D K c t 1 (agNext_eq c _ _) (agPrev_eq c _ _) _ (cons 2 (cons 3 hl))) $$ [HO Hm1 Hi1]
  · isplitr; · iexact HR
    isplitl [HO]; · iexact HO
    isplitl [Hm1] <;> iassumption
  iintro ⟨HO, Ho1, Hp1, Hm1⟩
  iapply (wp_hop D K c t 2 (agNext_eq c _ _) (agPrev_eq c _ _) _ (cons 3 hl)) $$ [HO Hm2 Hi2]
  · isplitr; · iexact HR
    isplitl [HO]; · iexact HO
    isplitl [Hm2] <;> iassumption
  iintro ⟨HO, Ho2, Hp2, Hm2⟩
  iapply (wp_hop D K c t 3 (agNext_eq c _ _) (agPrev_eq c _ _) l hl) $$ [HO Hm3 Hi3]
  · isplitr; · iexact HR
    isplitl [HO]; · iexact HO
    isplitl [Hm3] <;> iassumption
  iintro ⟨HO, Ho3, Hp3, Hm3⟩
  iapply (wp_put8 D c t.castSucc fullShare.right) $$ [Ho Hp0 Hp1 Hp2 Hp3]
  · isplitl [Ho]; · iexact Ho
    isplitl [Hp0]; · iexact Hp0
    isplitl [Hp1]; · iexact Hp1
    isplitl [Hp2]; · iexact Hp2
    iexact Hp3
  iintro ⟨Ho, Hp⟩
  iapply Hk
  isplitl [HO]; · iexact HO
  isplitl [Ho]; · iexact Ho
  isplitl [Ho0 Ho1 Ho2 Ho3]
  · isplitl [Ho0]; · iexact Ho0
    isplitl [Ho1]; · iexact Ho1
    isplitl [Ho2]; · iexact Ho2
    iexact Ho3
  isplitl [Hp]; · iexact Hp
  isplitl [Hm0]; · iexact Hm0
  isplitl [Hm1]; · iexact Hm1
  isplitl [Hm2]; · iexact Hm2
  iexact Hm3

/-- The last arrival of one piece, one direction. -/
theorem wp_last1 (b : Bool) (p : Fin 4) {k : Prg F} {Q : PUnit.{1} → sProp 𝕄} :
    iprop(recs D K ∗ ow c [] ∗ agMid c b 6 p)
      ⊢ iprop(((ow c [] ∗ agOut c b 6 p ∗ pieceP (agM b) 6 p fullShare c (agC D b c)) -∗ wpd c k Q) -∗ wpd c (recvAg b 6 p k) Q) := by
  unfold agMid agOut
  iintro ⟨HR, HO, HS, HaR, HcR⟩ Hk
  iapply (wp_recvAg D K c b 6 p [] (fun _ h => absurd h List.not_mem_nil)) $$ [HR HO HaR HcR]
  · isplitl [HR]; · iexact HR
    isplitl [HcR]; · iexact HcR
    isplitl [HO] <;> iassumption
  iintro ⟨HO, Hz, Hp⟩
  iapply Hk
  isplitl [HO]; · iexact HO
  isplitl [HS Hz]; · isplitl [HS] <;> iassumption
  iexact Hp
theorem wp_last2 (p : Fin 4) {k : Prg F} {Q : PUnit.{1} → sProp 𝕄} :
    iprop(recs D K ∗ ow c [] ∗ b2 fun b => agMid c b 6 p)
      ⊢ iprop(((ow c [] ∗ (b2 fun b => agOut c b 6 p) ∗ b2 fun b => pieceP (agM b) 6 p fullShare c (agC D b c)) -∗ wpd c k Q)
          -∗ wpd c (recvAg false 6 p <| recvAg true 6 p k) Q) := by
  iintro ⟨#HR, HO, H, H'⟩ Hk
  iapply (wp_last1 D K c false p) $$ [HO H]
  · isplitr; · iexact HR
    isplitl [HO] <;> iassumption
  iintro ⟨HO, Ho, Hp⟩
  iapply (wp_last1 D K c true p) $$ [HO H']
  · isplitr; · iexact HR
    isplitl [HO] <;> iassumption
  iintro ⟨HO, Ho', Hp'⟩
  iapply Hk
  isplitl [HO]; · iexact HO
  isplitl [Ho Ho']; · isplitl [Ho] <;> iassumption
  isplitl [Hp] <;> iassumption

theorem wp_last {k : Prg F} {Q : PUnit.{1} → sProp 𝕄} :
    iprop(recs D K ∗ ow c [] ∗ oAG D c 6 ∗ a8 fun b p => agMid c b 6 p)
      ⊢ iprop(((ow c [] ∗ oAG D c 7 ∗ (a8 fun b p => agOut c b 6 p) ∗ a8 fun b p => pieceP (agM b) 6 p fullShare c (agC D b c)) -∗ wpd c k Q)
          -∗ wpd c (last c k) Q) := by
  unfold last
  iintro ⟨#HR, HO, Ho, Hm0, Hm1, Hm2, Hm3⟩ Hk
  iapply (wp_last2 D K c 0) $$ [HO Hm0]
  · isplitr; · iexact HR
    isplitl [HO] <;> iassumption
  iintro ⟨HO, Ho0, Hp0⟩
  iapply (wp_last2 D K c 1) $$ [HO Hm1]
  · isplitr; · iexact HR
    isplitl [HO] <;> iassumption
  iintro ⟨HO, Ho1, Hp1⟩
  iapply (wp_last2 D K c 2) $$ [HO Hm2]
  · isplitr; · iexact HR
    isplitl [HO] <;> iassumption
  iintro ⟨HO, Ho2, Hp2⟩
  iapply (wp_last2 D K c 3) $$ [HO Hm3]
  · isplitr; · iexact HR
    isplitl [HO] <;> iassumption
  iintro ⟨HO, Ho3, Hp3⟩
  iapply (wp_put8 D c 6 fullShare) $$ [Ho Hp0 Hp1 Hp2 Hp3]
  · isplitl [Ho]; · iexact Ho
    isplitl [Hp0]; · iexact Hp0
    isplitl [Hp1]; · iexact Hp1
    isplitl [Hp2]; · iexact Hp2
    iexact Hp3
  iintro ⟨Ho, Hp⟩
  iapply Hk
  isplitl [HO]; · iexact HO
  isplitl [Ho]; · iexact Ho
  isplitl [Ho0 Ho1 Ho2 Ho3]
  · isplitl [Ho0]; · iexact Ho0
    isplitl [Ho1]; · iexact Ho1
    isplitl [Ho2]; · iexact Ho2
    iexact Ho3
  iexact Hp

/-! ## The ends of the all-gather's sends -/

theorem wp_sentFst2 (p : Fin 4) {k : Prg F} {Q : PUnit.{1} → sProp 𝕄} :
    iprop(recs D K ∗ ow c [] ∗ b2 fun b => agS c b 0 p)
      ⊢ iprop(((ow c [] ∗ b2 fun b => iprop(semVal (kcell c (.inr (kAgS b 0 p))) 0 ∗ rowP (stM b) p fullShare c (stC D b c))) -∗ wpd c k Q)
          -∗ wpd c (sentFst false p <| sentFst true p k) Q) := by
  unfold agS
  iintro ⟨#HR, HO, ⟨Ha, Hc⟩, Ha', Hc'⟩ Hk
  iapply (wp_sentFst D K c false p [] (fun _ h => absurd h List.not_mem_nil)) $$ [HO Ha Hc]
  · isplitr; · iexact HR
    isplitl [Hc]; · iexact Hc
    isplitl [HO] <;> iassumption
  iintro ⟨HO, H⟩
  iapply (wp_sentFst D K c true p [] (fun _ h => absurd h List.not_mem_nil)) $$ [HO Ha' Hc']
  · isplitr; · iexact HR
    isplitl [Hc']; · iexact Hc'
    isplitl [HO] <;> iassumption
  iintro ⟨HO, H'⟩
  iapply Hk
  isplitl [HO]; · iexact HO
  isplitl [H] <;> iassumption

theorem wp_sentAg2 (t : Fin 6) (p : Fin 4) {k : Prg F} {Q : PUnit.{1} → sProp 𝕄} :
    iprop(recs D K ∗ ow c [] ∗ b2 fun b => agS c b t.succ p)
      ⊢ iprop(((ow c [] ∗ b2 fun b => iprop(semVal (kcell c (.inr (kAgS b t.succ p))) 0 ∗ pieceP (agM b) t.castSucc p fullShare.left c (agC D b c))) -∗ wpd c k Q)
          -∗ wpd c (sentAg false t p <| sentAg true t p k) Q) := by
  unfold agS
  iintro ⟨#HR, HO, ⟨Ha, Hc⟩, Ha', Hc'⟩ Hk
  iapply (wp_sentAg D K c false t p [] (fun _ h => absurd h List.not_mem_nil)) $$ [HO Ha Hc]
  · isplitr; · iexact HR
    isplitl [Hc]; · iexact Hc
    isplitl [HO] <;> iassumption
  iintro ⟨HO, H⟩
  iapply (wp_sentAg D K c true t p [] (fun _ h => absurd h List.not_mem_nil)) $$ [HO Ha' Hc']
  · isplitr; · iexact HR
    isplitl [Hc']; · iexact Hc'
    isplitl [HO] <;> iassumption
  iintro ⟨HO, H'⟩
  iapply Hk
  isplitl [HO]; · iexact HO
  isplitl [H] <;> iassumption

/-- The ends of the sends of one hop. -/
def sent8 (t : Fin 6) (k : Prg F) : Prg F :=
  sentAg false t 0 <| sentAg true t 0 <| sentAg false t 1 <| sentAg true t 1 <|
  sentAg false t 2 <| sentAg true t 2 <| sentAg false t 3 <| sentAg true t 3 k
/-- The ends of the first sends. -/
def sent8F (k : Prg F) : Prg F :=
  sentFst false 0 <| sentFst true 0 <| sentFst false 1 <| sentFst true 1 <|
  sentFst false 2 <| sentFst true 2 <| sentFst false 3 <| sentFst true 3 k
theorem ends_eq (k : Prg F) : ends k = sent8F (sent8 0 <| sent8 1 <| sent8 2 <| sent8 3 <| sent8 4 <| sent8 5 k) := rfl

theorem wp_sent8F {k : Prg F} {Q : PUnit.{1} → sProp 𝕄} :
    iprop(recs D K ∗ ow c [] ∗ a8 fun b p => agS c b 0 p)
      ⊢ iprop(((ow c [] ∗ a8 fun b p => iprop(semVal (kcell c (.inr (kAgS b 0 p))) 0 ∗ rowP (stM b) p fullShare c (stC D b c))) -∗ wpd c k Q)
          -∗ wpd c (sent8F k) Q) := by
  unfold sent8F
  iintro ⟨#HR, HO, H0, H1, H2, H3⟩ Hk
  iapply (wp_sentFst2 D K c 0) $$ [HO H0]
  · isplitr; · iexact HR
    isplitl [HO] <;> iassumption
  iintro ⟨HO, H0⟩
  iapply (wp_sentFst2 D K c 1) $$ [HO H1]
  · isplitr; · iexact HR
    isplitl [HO] <;> iassumption
  iintro ⟨HO, H1⟩
  iapply (wp_sentFst2 D K c 2) $$ [HO H2]
  · isplitr; · iexact HR
    isplitl [HO] <;> iassumption
  iintro ⟨HO, H2⟩
  iapply (wp_sentFst2 D K c 3) $$ [HO H3]
  · isplitr; · iexact HR
    isplitl [HO] <;> iassumption
  iintro ⟨HO, H3⟩
  iapply Hk
  isplitl [HO]; · iexact HO
  isplitl [H0]; · iexact H0
  isplitl [H1]; · iexact H1
  isplitl [H2]; · iexact H2
  iexact H3

theorem wp_sent8 (t : Fin 6) {k : Prg F} {Q : PUnit.{1} → sProp 𝕄} :
    iprop(recs D K ∗ ow c [] ∗ a8 fun b p => agS c b t.succ p)
      ⊢ iprop(((ow c [] ∗ a8 fun b p => iprop(semVal (kcell c (.inr (kAgS b t.succ p))) 0 ∗ pieceP (agM b) t.castSucc p fullShare.left c (agC D b c))) -∗ wpd c k Q)
          -∗ wpd c (sent8 t k) Q) := by
  unfold sent8
  iintro ⟨#HR, HO, H0, H1, H2, H3⟩ Hk
  iapply (wp_sentAg2 D K c t 0) $$ [HO H0]
  · isplitr; · iexact HR
    isplitl [HO] <;> iassumption
  iintro ⟨HO, H0⟩
  iapply (wp_sentAg2 D K c t 1) $$ [HO H1]
  · isplitr; · iexact HR
    isplitl [HO] <;> iassumption
  iintro ⟨HO, H1⟩
  iapply (wp_sentAg2 D K c t 2) $$ [HO H2]
  · isplitr; · iexact HR
    isplitl [HO] <;> iassumption
  iintro ⟨HO, H2⟩
  iapply (wp_sentAg2 D K c t 3) $$ [HO H3]
  · isplitr; · iexact HR
    isplitl [HO] <;> iassumption
  iintro ⟨HO, H3⟩
  iapply Hk
  isplitl [HO]; · iexact HO
  isplitl [H0]; · iexact H0
  isplitl [H1]; · iexact H1
  isplitl [H2]; · iexact H2
  iexact H3

end Cert.KernelIdeal.Moe
-- ==== Proof.Rest.lean ====
/- The whole body of one device, from its buffers and records to the finished result. -/
module

public import proofs.«01_k».proof.Proof.Body

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (D : Dev nD → Ins F) (K : Dev nD × Cell → ℕ) (c : Dev nD)

/-! ## Joining and splitting small products -/

theorem b2_sep (Φ Ψ : Bool → sProp 𝕄) : (b2 fun b => iprop(Φ b ∗ Ψ b)) = iprop(b2 Φ ∗ b2 Ψ) := by
  rw [← b2_eq, ← b2_eq, ← b2_eq]; exact bigSep_sep' _ _ _
theorem f4_sep (Φ Ψ : Fin 4 → sProp 𝕄) : (f4 fun p => iprop(Φ p ∗ Ψ p)) = iprop(f4 Φ ∗ f4 Ψ) := by
  rw [← f4_eq, ← f4_eq, ← f4_eq]; exact bigSep_sep' _ _ _
theorem r7_sep (Φ Ψ : Fin 7 → sProp 𝕄) : (r7 fun s => iprop(Φ s ∗ Ψ s)) = iprop(r7 Φ ∗ r7 Ψ) := by
  rw [← r7_eq, ← r7_eq, ← r7_eq]; exact bigSep_sep' _ _ _
theorem a8_sep (Φ Ψ : Bool → Fin 4 → sProp 𝕄) : (a8 fun b p => iprop(Φ b p ∗ Ψ b p)) = iprop(a8 Φ ∗ a8 Ψ) := by
  rw [← f4_sep]; exact congrArg f4 (funext fun p => b2_sep (fun b => Φ b p) (fun b => Ψ b p))
theorem rb_sep (Φ Ψ : Fin 7 → Bool → sProp 𝕄) :
    (r7 fun s => b2 fun b => iprop(Φ s b ∗ Ψ s b)) = iprop((r7 fun s => b2 (Φ s)) ∗ r7 fun s => b2 (Ψ s)) := by
  rw [← r7_sep]; exact congrArg r7 (funext fun s => b2_sep (Φ s) (Ψ s))
theorem ra_sep (Φ Ψ : Fin 7 → Bool → Fin 4 → sProp 𝕄) :
    (r7 fun t => a8 fun b p => iprop(Φ t b p ∗ Ψ t b p)) = iprop((r7 fun t => a8 (Φ t)) ∗ r7 fun t => a8 (Ψ t)) := by
  rw [← r7_sep]; exact congrArg r7 (funext fun t => a8_sep (Φ t) (Ψ t))

theorem b2_mono {Φ Ψ : Bool → sProp 𝕄} (h : ∀ b, Φ b ⊢ Ψ b) : b2 Φ ⊢ b2 Ψ := by
  rw [← b2_eq, ← b2_eq]; exact bigSep_mono fun b _ => h b
theorem f4_mono {Φ Ψ : Fin 4 → sProp 𝕄} (h : ∀ p, Φ p ⊢ Ψ p) : f4 Φ ⊢ f4 Ψ := by
  rw [← f4_eq, ← f4_eq]; exact bigSep_mono fun p _ => h p
theorem r7_mono {Φ Ψ : Fin 7 → sProp 𝕄} (h : ∀ s, Φ s ⊢ Ψ s) : r7 Φ ⊢ r7 Ψ := by
  rw [← r7_eq, ← r7_eq]; exact bigSep_mono fun s _ => h s
theorem a8_mono {Φ Ψ : Bool → Fin 4 → sProp 𝕄} (h : ∀ b p, Φ b p ⊢ Ψ b p) : a8 Φ ⊢ a8 Ψ := f4_mono fun p => b2_mono fun b => h b p

/-- One for each forwarding hop. -/
abbrev f6 (Φ : Fin 6 → sProp 𝕄) : sProp 𝕄 := iprop(Φ 0 ∗ Φ 1 ∗ Φ 2 ∗ Φ 3 ∗ Φ 4 ∗ Φ 5)
theorem f6_eq (Φ : Fin 6 → sProp 𝕄) : bigSep Finset.univ Φ = f6 Φ := by
  rw [bigSep_univ_eq_bigSepL [0, 1, 2, 3, 4, 5] (by decide) (by decide), bigSepL_cons_cons, bigSepL_cons_cons, bigSepL_cons_cons, bigSepL_cons_cons,
    bigSepL_cons_cons, bigSepL_singleton]; rfl
theorem f6_sep (Φ Ψ : Fin 6 → sProp 𝕄) : (f6 fun t => iprop(Φ t ∗ Ψ t)) = iprop(f6 Φ ∗ f6 Ψ) := by
  rw [← f6_eq, ← f6_eq, ← f6_eq]; exact bigSep_sep' _ _ _
theorem f6_mono {Φ Ψ : Fin 6 → sProp 𝕄} (h : ∀ t, Φ t ⊢ Ψ t) : f6 Φ ⊢ f6 Ψ := by
  rw [← f6_eq, ← f6_eq]; exact bigSep_mono fun t _ => h t

/-- The slots of a buffer. -/
theorem whole_r7 (m : Memref sig .tc .vmem S7x256x512 .bf16) (q : PosShare TreeShare) (d : Dev nD) (X : S7x256x512.Idx → Elt F .bf16) :
    wholeP m q d X = r7 fun s => slotP m s q d X := (whole_slots m q d X).trans (r7_eq _)
/-- The pieces of a buffer. -/
theorem whole_r7f4 (m : Memref sig .tc .vmem S7x256x512 .bf16) (q : PosShare TreeShare) (d : Dev nD) (X : S7x256x512.Idx → Elt F .bf16) :
    wholeP m q d X = r7 fun t => f4 fun p => pieceP m t p q d X :=
  (whole_r7 m q d X).trans (congrArg r7 (funext fun t => slot_f4 d m t q X))
/-- The row blocks of a buffer. -/
theorem whole_f4 (m : Memref sig .tc .vmem S256x512 .bf16) (q : PosShare TreeShare) (d : Dev nD) (X : S256x512.Idx → Elt F .bf16) :
    wholeP m q d X = f4 fun p => rowP m p q d X := (whole_rows m q d X).trans (f4_eq _)

/-- Two buffers' slots, whatever they hold. -/
theorem slots_ex (m : Bool → Memref sig .tc .vmem S7x256x512 .bf16) (d : Bool → Dev nD) :
    (b2 fun b => iprop(∃ X, wholeP (F := F) (m b) fullShare (d b) X)) ⊢ r7 fun s => b2 fun b => iprop(∃ X, slotP (F := F) (m b) s fullShare (d b) X) := by
  have h : ∀ b, iprop(∃ X, wholeP (F := F) (m b) fullShare (d b) X) ⊢ r7 fun s => iprop(∃ X, slotP (F := F) (m b) s fullShare (d b) X) := fun b => by
    iintro ⟨%X, H⟩
    iapply (r7_mono (Φ := fun s => slotP (F := F) (m b) s fullShare (d b) X) fun s => by iintro H; iexists X; iexact H)
    iapply (Entails.of_eq (whole_r7 _ _ _ _)); iexact H
  exact (b2_mono h).trans (Entails.of_eq (r7_sep _ _).symm)
/-- Two buffers' pieces, whatever they hold. -/
theorem pieces_ex (m : Bool → Memref sig .tc .vmem S7x256x512 .bf16) (d : Bool → Dev nD) :
    (b2 fun b => iprop(∃ X, wholeP (F := F) (m b) fullShare (d b) X)) ⊢ r7 fun t => a8 fun b p => iprop(∃ X, pieceP (F := F) (m b) t p fullShare (d b) X) := by
  have h : ∀ b, iprop(∃ X, wholeP (F := F) (m b) fullShare (d b) X) ⊢ r7 fun t => f4 fun p => iprop(∃ X, pieceP (F := F) (m b) t p fullShare (d b) X) := fun b => by
    iintro ⟨%X, H⟩
    iapply (r7_mono (Φ := fun t => f4 fun p => pieceP (F := F) (m b) t p fullShare (d b) X) fun t => f4_mono fun p => by iintro H; iexists X; iexact H)
    iapply (Entails.of_eq (whole_r7f4 _ _ _ _)); iexact H
  refine (b2_mono h).trans (Entails.of_eq ((r7_sep _ _).symm.trans (congrArg r7 (funext fun t => (f4_sep _ _).symm))))
/-- Two buffers from their slots. -/
theorem slots_join (m : Bool → Memref sig .tc .vmem S7x256x512 .bf16) (d : Dev nD) (X : Bool → S7x256x512.Idx → Elt F .bf16) :
    (r7 fun s => b2 fun b => slotP (m b) s fullShare d (X b)) = b2 fun b => wholeP (m b) fullShare d (X b) := by
  exact (r7_sep (fun s => slotP (m false) s fullShare d (X false)) (fun s => slotP (m true) s fullShare d (X true))).trans
    (congrArg b2 (funext fun b => (whole_r7 (m b) fullShare d (X b)).symm))
/-- Two buffers from their pieces. -/
theorem pieces_join (m : Bool → Memref sig .tc .vmem S7x256x512 .bf16) (d : Dev nD) (X : Bool → S7x256x512.Idx → Elt F .bf16) :
    (r7 fun t => a8 fun b p => pieceP (m b) t p fullShare d (X b)) = b2 fun b => wholeP (m b) fullShare d (X b) := by
  exact ((congrArg r7 (funext fun t => f4_sep (fun p => pieceP (m false) t p fullShare d (X false)) (fun p => pieceP (m true) t p fullShare d (X true)))).trans
    (r7_sep _ _)).trans (congrArg b2 (funext fun b => (whole_r7f4 (m b) fullShare d (X b)).symm))
/-- Two buffers and their row blocks. -/
theorem rows_join (m : Bool → Memref sig .tc .vmem S256x512 .bf16) (d : Dev nD) (X : Bool → S256x512.Idx → Elt F .bf16) :
    (a8 fun b p => rowP (m b) p fullShare d (X b)) = b2 fun b => wholeP (m b) fullShare d (X b) := by
  exact (f4_sep (fun p => rowP (m false) p fullShare d (X false)) (fun p => rowP (m true) p fullShare d (X true))).trans
    (congrArg b2 (funext fun b => (whole_f4 (m b) fullShare d (X b)).symm))

theorem sep_rearrange (A B C E : sProp 𝕄) : iprop((A ∗ B) ∗ C ∗ E) = iprop((A ∗ C) ∗ B ∗ E) := by
  refine Entails.antisymm ?_ ?_
  · show iprop((A ∗ B) ∗ C ∗ E) ⊢ iprop((A ∗ C) ∗ B ∗ E)
    iintro ⟨⟨a, b⟩, c, e⟩
    isplitl [a c]; · isplitl [a] <;> iassumption
    isplitl [b] <;> iassumption
  · show iprop((A ∗ C) ∗ B ∗ E) ⊢ iprop((A ∗ B) ∗ C ∗ E)
    iintro ⟨⟨a, b⟩, c, e⟩
    isplitl [a c]; · isplitl [a] <;> iassumption
    isplitl [b] <;> iassumption

/-! ## What a device starts with and ends with -/

/-- Its positions, its duties' tokens and its launch credits. -/
def ghost : sProp 𝕄 :=
  iprop((dutyTok ER (kcell (prv c) cBar) 0 false ∗ dutyTok ER (kcell (nxt c) cBar) 0 true) ∗ (cred (tallyAt (kcell c cBar) () 2) ∗ atPos ER (kcell c cBar) 0 ∅ 0)
    ∗ (r7 fun s => b2 fun b => rsIn0 c b s) ∗ r7 fun t => a8 fun b p => agIn0 c b t p)
/-- All its transfers' semaphores at zero. -/
def zeros : sProp 𝕄 :=
  iprop((r7 fun s => b2 fun b => iprop(semVal (kcell c (.inr (kRsS b s))) 0 ∗ semVal (kcell c (.inr (kRsR b s))) 0))
    ∗ r7 fun t => a8 fun b p => iprop(semVal (kcell c (.inr (kAgS b t p))) 0 ∗ semVal (kcell c (.inr (kAgR b t p))) 0))
/-- Its own scratch buffers, whatever they hold. -/
def scr : sProp 𝕄 :=
  iprop((∃ X, wholeP (F := F) wM fullShare c X) ∗ (∃ X, wholeP (F := F) bM fullShare c X) ∗ (∃ X, wholeP (F := F) pM fullShare c X)
    ∗ (b2 fun b => iprop(∃ X, wholeP (F := F) (rsM b) fullShare c X)) ∗ (b2 fun b => iprop(∃ X, wholeP (F := F) (agM b) fullShare c X))
    ∗ (b2 fun b => iprop(∃ X, wholeP (F := F) (stM b) fullShare c X)) ∗ b2 fun b => iprop(∃ X, wholeP (F := F) (sgM b) fullShare c X))

/-! ## The phases in a row -/

/-- The seven steps of the reduce-scatter. -/
def rsAll (k : Prg F) : Prg F :=
  rsStep c 0 (rsNext c 0) (rsPrev c 0) <|
  rsStep c 1 (rsNext c 1) (rsPrev c 1) <|
  rsStep c 2 (rsNext c 2) (rsPrev c 2) <|
  rsStep c 3 (rsNext c 3) (rsPrev c 3) <|
  rsStep c 4 (rsNext c 4) (rsPrev c 4) <|
  rsStep c 5 (rsNext c 5) (rsPrev c 5) <|
  rsStep c 6 (rsNext c 6) (rsPrev c 6) k
/-- The six forwarding hops of the all-gather. -/
def agAll (k : Prg F) : Prg F :=
  agStep c 0 <|
  agStep c 1 <|
  agStep c 2 <|
  agStep c 3 <|
  agStep c 4 <|
  agStep c 5 k
theorem rest_eq : rest (F := F) c = (front c <|
  half (k0_off1 c) (k0_off1_inb c) (k0_off2 c) (k0_off2_inb c) ![0, 0, 0] inb_S8x512x1024_S8x512x512_0_0_0 (k0_off3 c) (k0_off3_inb c) <|
  half (k0_off1 c) (k0_off1_inb c) (k0_off2 c) (k0_off2_inb c) ![0, 0, 512] inb_S8x512x1024_S8x512x512_0_0_512 (k0_off4 c) (k0_off4_inb c) <|
  barrier <| rsAll c <| middle c <| first c 0 <| first c 1 <| first c 2 <| first c 3 <| agAll c <| last c <|
  sent8F <| sent8 0 <| sent8 1 <| sent8 2 <| sent8 3 <| sent8 4 <| sent8 5 <| .ret ⟨⟩) := rfl

theorem wp_rsAll {k : Prg F} {Q : PUnit.{1} → sProp 𝕄} :
    iprop(recs D K ∗ mem D c ∗ oRS D c 0 ∗ ow c lR0 ∗ r7 fun s => b2 fun b => rsIn c b s)
      ⊢ iprop(((mem D c ∗ oRS D c 7 ∗ ow c lA0 ∗ r7 fun s => b2 fun b => rsOut D c b s) -∗ wpd c k Q) -∗ wpd c (rsAll c k) Q) := by
  unfold rsAll
  iintro ⟨#HR, Hm, Ho, HO, ⟨H0, H0'⟩, ⟨H1, H1'⟩, ⟨H2, H2'⟩, ⟨H3, H3'⟩, ⟨H4, H4'⟩, ⟨H5, H5'⟩, H6, H6'⟩ Hk
  iapply (wp_rsStep D K c 0 (rsNext_eq c _) (rsPrev_eq c _) lR1 (by decide)) $$ [Hm Ho HO H0 H0']
  · isplitr; · iexact HR
    isplitl [Hm]; · iexact Hm
    isplitl [Ho]; · iexact Ho
    isplitl [HO]; · iexact HO
    isplitl [H0] <;> iassumption
  iintro ⟨Hm, Ho, HO, H0, H0'⟩
  iapply (wp_rsStep D K c 1 (rsNext_eq c _) (rsPrev_eq c _) lR2 (by decide)) $$ [Hm Ho HO H1 H1']
  · isplitr; · iexact HR
    isplitl [Hm]; · iexact Hm
    isplitl [Ho]; · iexact Ho
    isplitl [HO]; · iexact HO
    isplitl [H1] <;> iassumption
  iintro ⟨Hm, Ho, HO, H1, H1'⟩
  iapply (wp_rsStep D K c 2 (rsNext_eq c _) (rsPrev_eq c _) lR3 (by decide)) $$ [Hm Ho HO H2 H2']
  · isplitr; · iexact HR
    isplitl [Hm]; · iexact Hm
    isplitl [Ho]; · iexact Ho
    isplitl [HO]; · iexact HO
    isplitl [H2] <;> iassumption
  iintro ⟨Hm, Ho, HO, H2, H2'⟩
  iapply (wp_rsStep D K c 3 (rsNext_eq c _) (rsPrev_eq c _) lR4 (by decide)) $$ [Hm Ho HO H3 H3']
  · isplitr; · iexact HR
    isplitl [Hm]; · iexact Hm
    isplitl [Ho]; · iexact Ho
    isplitl [HO]; · iexact HO
    isplitl [H3] <;> iassumption
  iintro ⟨Hm, Ho, HO, H3, H3'⟩
  iapply (wp_rsStep D K c 4 (rsNext_eq c _) (rsPrev_eq c _) lR5 (by decide)) $$ [Hm Ho HO H4 H4']
  · isplitr; · iexact HR
    isplitl [Hm]; · iexact Hm
    isplitl [Ho]; · iexact Ho
    isplitl [HO]; · iexact HO
    isplitl [H4] <;> iassumption
  iintro ⟨Hm, Ho, HO, H4, H4'⟩
  iapply (wp_rsStep D K c 5 (rsNext_eq c _) (rsPrev_eq c _) lR6 (by decide)) $$ [Hm Ho HO H5 H5']
  · isplitr; · iexact HR
    isplitl [Hm]; · iexact Hm
    isplitl [Ho]; · iexact Ho
    isplitl [HO]; · iexact HO
    isplitl [H5] <;> iassumption
  iintro ⟨Hm, Ho, HO, H5, H5'⟩
  iapply (wp_rsStep D K c 6 (rsNext_eq c _) (rsPrev_eq c _) lA0 (by decide)) $$ [Hm Ho HO H6 H6']
  · isplitr; · iexact HR
    isplitl [Hm]; · iexact Hm
    isplitl [Ho]; · iexact Ho
    isplitl [HO]; · iexact HO
    isplitl [H6] <;> iassumption
  iintro ⟨Hm, Ho, HO, H6, H6'⟩
  iapply Hk
  isplitl [Hm]; · iexact Hm
  isplitl [Ho]; · iexact Ho
  isplitl [HO]; · iexact HO
  isplitl [H0 H0']; · isplitl [H0] <;> iassumption
  isplitl [H1 H1']; · isplitl [H1] <;> iassumption
  isplitl [H2 H2']; · isplitl [H2] <;> iassumption
  isplitl [H3 H3']; · isplitl [H3] <;> iassumption
  isplitl [H4 H4']; · isplitl [H4] <;> iassumption
  isplitl [H5 H5']; · isplitl [H5] <;> iassumption
  isplitl [H6] <;> iassumption

theorem wp_agAll {k : Prg F} {Q : PUnit.{1} → sProp 𝕄} :
    iprop(recs D K ∗ ow c lA1 ∗ oAG D c 0 ∗ (a8 fun b p => agMid c b 0 p) ∗ f6 fun t => a8 fun b p => agIn c b t.succ p)
      ⊢ iprop(((ow c [] ∗ oAG D c 6 ∗ (f6 fun t => iprop((a8 fun b p => agOut c b t.castSucc p) ∗ a8 fun b p => pieceP (agM b) t.castSucc p fullShare.right c (agC D b c)))
          ∗ a8 fun b p => agMid c b 6 p) -∗ wpd c k Q) -∗ wpd c (agAll c k) Q) := by
  unfold agAll
  iintro ⟨#HR, HO, Ho, Hm, H0, H1, H2, H3, H4, H5⟩ Hk
  iapply (wp_agStep D K c 0 lA2 (by decide)) $$ [HO Ho Hm H0]
  · isplitr; · iexact HR
    isplitl [HO]; · iexact HO
    isplitl [Ho]; · iexact Ho
    isplitl [Hm]; · iexact Hm
    iexact H0
  iintro ⟨HO, Ho, Hout0, H0, Hm⟩
  iapply (wp_agStep D K c 1 lA3 (by decide)) $$ [HO Ho Hm H1]
  · isplitr; · iexact HR
    isplitl [HO]; · iexact HO
    isplitl [Ho]; · iexact Ho
    isplitl [Hm]; · iexact Hm
    iexact H1
  iintro ⟨HO, Ho, Hout1, H1, Hm⟩
  iapply (wp_agStep D K c 2 lA4 (by decide)) $$ [HO Ho Hm H2]
  · isplitr; · iexact HR
    isplitl [HO]; · iexact HO
    isplitl [Ho]; · iexact Ho
    isplitl [Hm]; · iexact Hm
    iexact H2
  iintro ⟨HO, Ho, Hout2, H2, Hm⟩
  iapply (wp_agStep D K c 3 lA5 (by decide)) $$ [HO Ho Hm H3]
  · isplitr; · iexact HR
    isplitl [HO]; · iexact HO
    isplitl [Ho]; · iexact Ho
    isplitl [Hm]; · iexact Hm
    iexact H3
  iintro ⟨HO, Ho, Hout3, H3, Hm⟩
  iapply (wp_agStep D K c 4 lA6 (by decide)) $$ [HO Ho Hm H4]
  · isplitr; · iexact HR
    isplitl [HO]; · iexact HO
    isplitl [Ho]; · iexact Ho
    isplitl [Hm]; · iexact Hm
    iexact H4
  iintro ⟨HO, Ho, Hout4, H4, Hm⟩
  iapply (wp_agStep D K c 5 [] (by decide)) $$ [HO Ho Hm H5]
  · isplitr; · iexact HR
    isplitl [HO]; · iexact HO
    isplitl [Ho]; · iexact Ho
    isplitl [Hm]; · iexact Hm
    iexact H5
  iintro ⟨HO, Ho, Hout5, H5, Hm⟩
  iapply Hk
  isplitl [HO]; · iexact HO
  isplitl [Ho]; · iexact Ho
  isplitr [Hm]
  · isplitl [Hout0 H0]; · isplitl [Hout0] <;> iassumption
    isplitl [Hout1 H1]; · isplitl [Hout1] <;> iassumption
    isplitl [Hout2 H2]; · isplitl [Hout2] <;> iassumption
    isplitl [Hout3 H3]; · isplitl [Hout3] <;> iassumption
    isplitl [Hout4 H4]; · isplitl [Hout4] <;> iassumption
    isplitl [Hout5] <;> iassumption
  iexact Hm

theorem wp_firstAll {k : Prg F} {Q : PUnit.{1} → sProp 𝕄} :
    iprop(recs D K ∗ ow c lA0 ∗ (a8 fun b p => agIn c b 0 p) ∗ a8 fun b p => rowP (stM b) p fullShare c (stC D b c))
      ⊢ iprop(((ow c lA1 ∗ a8 fun b p => agMid c b 0 p) -∗ wpd c k Q) -∗ wpd c (first c 0 <| first c 1 <| first c 2 <| first c 3 k) Q) := by
  iintro ⟨#HR, HO, ⟨H0, H1, H2, H3⟩, Hs0, Hs1, Hs2, Hs3⟩ Hk
  iapply (wp_first D K c 0 (oPc 0 1 <| oPc 0 2 <| oPc 0 3 lA1)) $$ [HO H0 Hs0]
  · isplitr; · iexact HR
    isplitl [HO]; · iexact HO
    isplitl [H0] <;> iassumption
  iintro ⟨HO, H0⟩
  iapply (wp_first D K c 1 (oPc 0 2 <| oPc 0 3 lA1)) $$ [HO H1 Hs1]
  · isplitr; · iexact HR
    isplitl [HO]; · iexact HO
    isplitl [H1] <;> iassumption
  iintro ⟨HO, H1⟩
  iapply (wp_first D K c 2 (oPc 0 3 lA1)) $$ [HO H2 Hs2]
  · isplitr; · iexact HR
    isplitl [HO]; · iexact HO
    isplitl [H2] <;> iassumption
  iintro ⟨HO, H2⟩
  iapply (wp_first D K c 3 lA1) $$ [HO H3 Hs3]
  · isplitr; · iexact HR
    isplitl [HO]; · iexact HO
    isplitl [H3] <;> iassumption
  iintro ⟨HO, H3⟩
  iapply Hk
  isplitl [HO]; · iexact HO
  isplitl [H0]; · iexact H0
  isplitl [H1]; · iexact H1
  isplitl [H2]; · iexact H2
  iexact H3

theorem wp_endsAll {k : Prg F} {Q : PUnit.{1} → sProp 𝕄} :
    iprop(recs D K ∗ ow c [] ∗ (a8 fun b p => agS c b 0 p) ∗ f6 fun t => a8 fun b p => agS c b t.succ p)
      ⊢ iprop(((ow c [] ∗ (a8 fun b p => iprop(semVal (kcell c (.inr (kAgS b 0 p))) 0 ∗ rowP (stM b) p fullShare c (stC D b c)))
          ∗ f6 fun t => a8 fun b p => iprop(semVal (kcell c (.inr (kAgS b t.succ p))) 0 ∗ pieceP (agM b) t.castSucc p fullShare.left c (agC D b c))) -∗ wpd c k Q)
        -∗ wpd c (sent8F <| sent8 0 <| sent8 1 <| sent8 2 <| sent8 3 <| sent8 4 <| sent8 5 k) Q) := by
  iintro ⟨#HR, HO, H, H0, H1, H2, H3, H4, H5⟩ Hk
  iapply (wp_sent8F D K c) $$ [HO H]
  · isplitr; · iexact HR
    isplitl [HO] <;> iassumption
  iintro ⟨HO, H⟩
  iapply (wp_sent8 D K c 0) $$ [HO H0]
  · isplitr; · iexact HR
    isplitl [HO] <;> iassumption
  iintro ⟨HO, H0⟩
  iapply (wp_sent8 D K c 1) $$ [HO H1]
  · isplitr; · iexact HR
    isplitl [HO] <;> iassumption
  iintro ⟨HO, H1⟩
  iapply (wp_sent8 D K c 2) $$ [HO H2]
  · isplitr; · iexact HR
    isplitl [HO] <;> iassumption
  iintro ⟨HO, H2⟩
  iapply (wp_sent8 D K c 3) $$ [HO H3]
  · isplitr; · iexact HR
    isplitl [HO] <;> iassumption
  iintro ⟨HO, H3⟩
  iapply (wp_sent8 D K c 4) $$ [HO H4]
  · isplitr; · iexact HR
    isplitl [HO] <;> iassumption
  iintro ⟨HO, H4⟩
  iapply (wp_sent8 D K c 5) $$ [HO H5]
  · isplitr; · iexact HR
    isplitl [HO] <;> iassumption
  iintro ⟨HO, H5⟩
  iapply Hk
  isplitl [HO]; · iexact HO
  isplitl [H]; · iexact H
  isplitl [H0]; · iexact H0
  isplitl [H1]; · iexact H1
  isplitl [H2]; · iexact H2
  isplitl [H3]; · iexact H3
  isplitl [H4]; · iexact H4
  iexact H5

/-- The parts of the result's buffer once everything has arrived. -/
theorem out_final {T : Dev nD → Bool → Vec F S256x512 .f32}
    (hT : ∀ b, T (back b c 7) b = acc D b c 7 ∧ ∀ j : Fin 8, j.val < 7 → T (back b c j.val) b = got D b (back b c (j.val + 1))) : asmO T = outC D c := by
  refine congrArg asmO (funext fun k => funext fun b => ?_)
  unfold outT
  by_cases hk : k = nb b c
  · rw [if_pos hk, hk, ← back_seven]; exact (hT b).1
  · rw [if_neg hk]
    obtain ⟨j, rfl⟩ := back_surj b c k
    have hj : j.val < 7 := by
      have := j.isLt
      by_contra h
      exact hk (by rw [show j.val = 7 by omega]; exact back_seven b c)
    rw [(hT b).2 j hj, back_succ]

/-- The sends' and arrivals' ends, put together. -/
theorem ag_finish :
    iprop((f6 fun t => a8 fun b p => semVal (kcell c (.inr (kAgR b t.castSucc p))) 0) ∗ (f6 fun t => a8 fun b p => pieceP (agM b) t.castSucc p fullShare.right c (agC D b c))
        ∗ (a8 fun b p => semVal (kcell c (.inr (kAgR b 6 p))) 0) ∗ (a8 fun b p => pieceP (agM b) 6 p fullShare c (agC D b c))
        ∗ (a8 fun b p => semVal (kcell c (.inr (kAgS b 0 p))) 0)
        ∗ (f6 fun t => a8 fun b p => semVal (kcell c (.inr (kAgS b t.succ p))) 0) ∗ (f6 fun t => a8 fun b p => pieceP (agM b) t.castSucc p fullShare.left c (agC D b c)))
      ⊢ iprop((r7 fun t => a8 fun b p => iprop(semVal (kcell c (.inr (kAgS b t p))) 0 ∗ semVal (kcell c (.inr (kAgR b t p))) 0))
          ∗ b2 fun b => wholeP (agM b) fullShare c (agC D b c)) := by
  rw [ra_sep, ← pieces_join]
  iintro ⟨⟨r0, r1, r2, r3, r4, r5⟩, Hr, r6, p6, s0, ⟨s1, s2, s3, s4, s5, s6⟩, Hl⟩
  ihave Hp := (show iprop((f6 fun t => a8 fun b p => pieceP (agM b) t.castSucc p fullShare.left c (agC D b c))
        ∗ f6 fun t => a8 fun b p => pieceP (agM b) t.castSucc p fullShare.right c (agC D b c))
      ⊢ (f6 fun t => a8 fun b p => pieceP (agM b) t.castSucc p fullShare c (agC D b c) : sProp 𝕄) from by
        rw [← f6_sep]
        refine f6_mono fun t => ?_
        rw [← a8_sep]
        exact a8_mono fun b p => (piece_halves (agM b) t.castSucc p c (agC D b c)).2) $$ [Hl Hr]
  · isplitl [Hl] <;> iassumption
  icases Hp with ⟨p0, p1, p2, p3, p4, p5⟩
  isplitl [s0 s1 s2 s3 s4 s5 s6 r0 r1 r2 r3 r4 r5 r6]
  · isplitl [s0 s1 s2 s3 s4 s5 s6]
    · isplitl [s0]; · iexact s0
      isplitl [s1]; · iexact s1
      isplitl [s2]; · iexact s2
      isplitl [s3]; · iexact s3
      isplitl [s4]; · iexact s4
      isplitl [s5]; · iexact s5
      iexact s6
    · isplitl [r0]; · iexact r0
      isplitl [r1]; · iexact r1
      isplitl [r2]; · iexact r2
      isplitl [r3]; · iexact r3
      isplitl [r4]; · iexact r4
      isplitl [r5]; · iexact r5
      iexact r6
  · isplitl [p0]; · iexact p0
    isplitl [p1]; · iexact p1
    isplitl [p2]; · iexact p2
    isplitl [p3]; · iexact p3
    isplitl [p4]; · iexact p4
    isplitl [p5]; · iexact p5
    iexact p6

/-- The whole body. -/
theorem wp_rest {Q : PUnit.{1} → sProp 𝕄} :
    iprop(recs D K ∗ ow c lAll ∗ ghost c ∗ scr c
        ∗ wholeP xM fullShare c (D c).x ∗ wholeP rM fullShare c (D c).r ∗ wholeP iM fullShare c (D c).i ∗ wholeP eM fullShare c (D c).e
        ∗ ∃ X, wholeP oM fullShare c X)
      ⊢ iprop(((ow c [] ∗ semVal (kcell c cBar) 0 ∗ zeros c ∗ scr c
            ∗ wholeP xM fullShare c (D c).x ∗ wholeP rM fullShare c (D c).r ∗ wholeP iM fullShare c (D c).i ∗ wholeP eM fullShare c (D c).e
            ∗ wholeP oM fullShare c (outC D c)) -∗ wpd c (.ret ⟨⟩) Q) -∗ wpd c (rest c) Q) := by
  rw [rest_eq]
  unfold ghost scr
  iintro ⟨#HR, HO, ⟨⟨HtP, HtN⟩, ⟨HcB, HaB⟩, Hrs, Hag⟩, ⟨⟨%Xw, Hw⟩, ⟨%Xb, Hb⟩, Hp, ⟨⟨%X0, H0⟩, ⟨%X1, H1⟩⟩, ⟨⟨%X2, H2⟩, ⟨%X3, H3⟩⟩, ⟨Hst, Hst'⟩, Hsg⟩, Hx, Hr, Hi, He, ⟨%Xo, Ho⟩⟩ Hk
  iapply (wp_front D K c X0 X1 X2 X3 Xw Xb) $$ [HO HtP HtN H0 H1 H2 H3 Hx Hr Hi Hw Hb]
  · isplitr; · iexact HR
    isplitl [HO]; · iexact HO
    isplitl [HtP]; · iexact HtP
    isplitl [HtN]; · iexact HtN
    isplitl [H0]; · iexact H0
    isplitl [H1]; · iexact H1
    isplitl [H2]; · iexact H2
    isplitl [H3]; · iexact H3
    isplitl [Hx]; · iexact Hx
    isplitl [Hr]; · iexact Hr
    isplitl [Hi]; · iexact Hi
    isplitl [Hw] <;> iassumption
  iintro ⟨HO, Hx, Hr, Hi, Hw, Hb⟩
  ihave Ho := (Entails.of_eq (congrArg (wholeP (F := F) oM fullShare c) (asmO_window Xo).symm)) $$ Ho
  iapply (wp_half D c c false (off1_eq c) (off2_eq c) rfl (off3_eq c) _) $$ [Hw Hb Hp He Ho]
  · isplitr [Ho]
    · unfold mem
      isplitl [Hb]; · iexact Hb
      isplitl [Hw]; · iexact Hw
      isplitl [Hp] <;> iassumption
    · iexact Ho
  iintro ⟨Hm, Ho⟩
  iapply (wp_half D c c true (off1_eq' c) (off2_eq' c) rfl (off4_eq c) _) $$ [Hm Ho]
  · isplitl [Hm] <;> iassumption
  iintro ⟨Hm, Ho⟩
  iapply (wp_barrier D K c lR0 (by decide)) $$ [HO HcB HaB]
  · isplitr; · iexact HR
    isplitl [HO]; · iexact HO
    isplitl [HcB] <;> iassumption
  unfold pay
  iintro ⟨HO, HzB, ⟨Hrs0, Hag0⟩, Hrs1, Hag1⟩
  ihave Hsg := (slots_ex (F := F) sgM (fun _ => c)) $$ Hsg
  ihave Hd := (slots_ex (F := F) rsM (fun b => nb b c)) $$ [Hrs0 Hrs1]
  · isplitl [Hrs0] <;> iassumption
  ihave Hda := (pieces_ex (F := F) agM (fun b => nb b c)) $$ [Hag0 Hag1]
  · isplitl [Hag0] <;> iassumption
  ihave Hrs := (show iprop((r7 fun s => b2 fun b => rsIn0 c b s) ∗ (r7 fun s => b2 fun b => iprop(∃ X, slotP (F := F) (sgM b) s fullShare c X))
        ∗ r7 fun s => b2 fun b => iprop(∃ X, slotP (F := F) (rsM b) s fullShare (nb b c) X)) ⊢ r7 fun s => b2 fun b => rsIn (F := F) c b s from
      Entails.of_eq (by unfold rsIn; rw [rb_sep, rb_sep])) $$ [Hrs Hsg Hd]
  · isplitl [Hrs]; · iexact Hrs
    isplitl [Hsg] <;> iassumption
  ihave Hag := (show iprop((r7 fun t => a8 fun b p => agIn0 c b t p) ∗ (r7 fun t => a8 fun b p => iprop(∃ X, pieceP (F := F) (agM b) t p fullShare (nb b c) X)))
      ⊢ r7 fun t => a8 fun b p => agIn (F := F) c b t p from Entails.of_eq (by unfold agIn; rw [ra_sep])) $$ [Hag Hda]
  · isplitl [Hag] <;> iassumption
  iapply (wp_rsAll D K c) $$ [Hm Ho HO Hrs]
  · isplitr; · iexact HR
    isplitl [Hm]; · iexact Hm
    isplitl [Ho]
    · unfold oRS
      iexists _
      isplitr
      swap; · iexact Ho
      ipureintro
      intro b
      cases b
      · exact (updO_ne _ _ (.inr (by decide))).trans (updO_same _ _ _ _)
      · exact updO_same _ _ _ _
    isplitl [HO] <;> iassumption
  iintro ⟨Hm, Ho, HO, Hrs⟩
  iapply (wp_middle D K c lA0 (by decide)) $$ [HO Hrs Ho Hst Hst']
  · isplitr; · iexact HR
    isplitl [HO]; · iexact HO
    isplitl [Hrs]; · iexact Hrs
    isplitl [Ho]; · iexact Ho
    isplitl [Hst] <;> iassumption
  iintro ⟨HO, Hrs, Ho, Hst, Hst'⟩
  ihave Hrow := (Entails.of_eq (rows_join stM c (fun b => stC D b c)).symm) $$ [Hst Hst']
  · isplitl [Hst] <;> iassumption
  icases Hag with ⟨Hag0, Hag1, Hag2, Hag3, Hag4, Hag5, Hag6⟩
  iapply (wp_firstAll D K c) $$ [HO Hag0 Hrow]
  · isplitr; · iexact HR
    isplitl [HO]; · iexact HO
    isplitl [Hag0] <;> iassumption
  iintro ⟨HO, Hmid⟩
  iapply (wp_agAll D K c) $$ [HO Ho Hmid Hag1 Hag2 Hag3 Hag4 Hag5 Hag6]
  · isplitr; · iexact HR
    isplitl [HO]; · iexact HO
    isplitl [Ho]; · iexact Ho
    isplitl [Hmid]; · iexact Hmid
    isplitl [Hag1]; · iexact Hag1
    isplitl [Hag2]; · iexact Hag2
    isplitl [Hag3]; · iexact Hag3
    isplitl [Hag4]; · iexact Hag4
    isplitl [Hag5]; · iexact Hag5
    iexact Hag6
  iintro ⟨HO, Ho, Hout, Hmid⟩
  iapply (wp_last D K c) $$ [HO Ho Hmid]
  · isplitr; · iexact HR
    isplitl [HO]; · iexact HO
    isplitl [Ho] <;> iassumption
  iintro ⟨HO, Ho, Hout6, Hp6⟩
  ihave Hout := (Entails.of_eq (f6_sep (fun t => a8 fun b p => agOut (F := F) c b t.castSucc p)
    (fun t => a8 fun b p => pieceP (agM b) t.castSucc p fullShare.right c (agC D b c)))) $$ Hout
  icases Hout with ⟨Hout, Hright⟩
  ihave Hout := (show (f6 fun t => a8 fun b p => agOut (F := F) c b t.castSucc p) ⊢ iprop((f6 fun t => a8 fun b p => agS (F := F) c b t.castSucc p)
      ∗ f6 fun t => a8 fun b p => semVal (kcell c (.inr (kAgR b t.castSucc p))) 0) from
    Entails.of_eq (by unfold agOut; rw [← f6_sep]; exact congrArg f6 (funext fun t => a8_sep _ _))) $$ Hout
  icases Hout with ⟨⟨Hs0, Hs1, Hs2, Hs3, Hs4, Hs5⟩, HzR⟩
  ihave Hout6 := (show (a8 fun b p => agOut (F := F) c b 6 p) ⊢ iprop((a8 fun b p => agS (F := F) c b 6 p)
      ∗ a8 fun b p => semVal (kcell c (.inr (kAgR b 6 p))) 0) from Entails.of_eq (by unfold agOut; exact a8_sep _ _)) $$ Hout6
  icases Hout6 with ⟨Hs6, HzR6⟩
  iapply (wp_endsAll D K c) $$ [HO Hs0 Hs1 Hs2 Hs3 Hs4 Hs5 Hs6]
  · isplitr; · iexact HR
    isplitl [HO]; · iexact HO
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hs6
  iintro ⟨HO, HF, HE⟩
  ihave HF := (Entails.of_eq (a8_sep (fun b p => semVal (kcell c (.inr (kAgS b 0 p))) 0) (fun b p => rowP (stM b) p fullShare c (stC D b c)))) $$ HF
  icases HF with ⟨HzS0, Hrow⟩
  ihave HE := (show (f6 fun t => a8 fun b p => iprop(semVal (kcell c (.inr (kAgS b t.succ p))) 0 ∗ pieceP (agM b) t.castSucc p fullShare.left c (agC D b c)))
      ⊢ iprop((f6 fun t => a8 fun b p => semVal (kcell c (.inr (kAgS b t.succ p))) 0) ∗ f6 fun t => a8 fun b p => pieceP (agM b) t.castSucc p fullShare.left c (agC D b c)) from
    Entails.of_eq (by rw [← f6_sep]; exact congrArg f6 (funext fun t => a8_sep _ _))) $$ HE
  icases HE with ⟨HzS, Hleft⟩
  ihave Hfin := (ag_finish D c) $$ [HzR Hright HzR6 Hp6 HzS0 HzS Hleft]
  · isplitl [HzR]; · iexact HzR
    isplitl [Hright]; · iexact Hright
    isplitl [HzR6]; · iexact HzR6
    isplitl [Hp6]; · iexact Hp6
    isplitl [HzS0]; · iexact HzS0
    isplitl [HzS] <;> iassumption
  icases Hfin with ⟨Hza, Hagf, Hagt⟩
  ihave Hst := (Entails.of_eq (rows_join stM c (fun b => stC D b c))) $$ Hrow
  icases Hst with ⟨Hst, Hst'⟩
  ihave Hrs := (show (r7 fun s => b2 fun b => rsEnd D c b s)
      ⊢ iprop((r7 fun s => b2 fun b => iprop(semVal (kcell c (.inr (kRsS b s))) 0 ∗ semVal (kcell c (.inr (kRsR b s))) 0))
        ∗ (b2 fun b => wholeP (sgM b) fullShare c (sgC D b c)) ∗ b2 fun b => wholeP (rsM b) fullShare c (rsC D b c)) from
    Entails.of_eq (by
      unfold rsEnd
      rw [← slots_join, ← slots_join, rb_sep, rb_sep, rb_sep, rb_sep]
      exact sep_rearrange _ _ _ _)) $$ Hrs
  icases Hrs with ⟨Hzr, ⟨Hsgf, Hsgt⟩, Hrsf, Hrst⟩
  unfold mem oAG
  icases Hm with ⟨Hb, Hw, Hp, He⟩
  icases Ho with ⟨%T, %hT, Ho⟩
  iapply Hk
  isplitl [HO]; · iexact HO
  isplitl [HzB]; · iexact HzB
  isplitl [Hzr Hza]
  · unfold zeros
    isplitl [Hzr] <;> iassumption
  isplitl [Hw Hb Hp Hrsf Hrst Hagf Hagt Hst Hst' Hsgf Hsgt]
  · isplitl [Hw]; · iexists _; iexact Hw
    isplitl [Hb]; · iexists _; iexact Hb
    isplitl [Hp]; · iexact Hp
    isplitl [Hrsf Hrst]
    · isplitl [Hrsf]
      · iexists _; iexact Hrsf
      · iexists _; iexact Hrst
    isplitl [Hagf Hagt]
    · isplitl [Hagf]
      · iexists _; iexact Hagf
      · iexists _; iexact Hagt
    isplitl [Hst Hst']
    · isplitl [Hst]
      · iexists _; iexact Hst
      · iexists _; iexact Hst'
    isplitl [Hsgf]
    · iexists _; iexact Hsgf
    · iexists _; iexact Hsgt
  isplitl [Hx]; · iexact Hx
  isplitl [Hr]; · iexact Hr
  isplitl [Hi]; · iexact Hi
  isplitl [He]; · iexact He
  iapply (Entails.of_eq (congrArg (wholeP (F := F) oM fullShare c) (out_final D c hT))); iexact Ho

end Cert.KernelIdeal.Moe
-- ==== Proof.Deal.lean ====
/- What the launch deals to the devices: the semaphores' first rounds, the duties' tokens passed to the device that pays
   them, and the credits that the others' debts give. -/
module

public import proofs.«01_k».proof.Proof.Rest

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (D : Dev nD → Ins F) (c : Dev nD)

/-! ## Products over the semaphores -/

/-- A product over the transfers' semaphores, phase by phase. -/
theorem key_split (Φ : Key → sProp 𝕄) : bigSep Finset.univ Φ
    = iprop(((r7 fun s => b2 fun b => Φ (kRsS b s)) ∗ r7 fun s => b2 fun b => Φ (kRsR b s))
        ∗ (r7 fun t => a8 fun b p => Φ (kAgS b t p)) ∗ r7 fun t => a8 fun b p => Φ (kAgR b t p)) := by
  have hR (Ψ : RsK → sProp 𝕄) : bigSep Finset.univ Ψ = r7 fun s => b2 fun b => Ψ (s, b) := by
    rw [bigSep_univ_prod, r7_eq]; exact congrArg r7 (funext fun s => b2_eq _)
  have hA (Ψ : AgK → sProp 𝕄) : bigSep Finset.univ Ψ = r7 fun t => a8 fun b p => Ψ (t, p, b) := by
    rw [bigSep_univ_prod, r7_eq]
    refine congrArg r7 (funext fun t => ?_)
    rw [bigSep_univ_prod, f4_eq]; exact congrArg f4 (funext fun p => b2_eq _)
  refine (bigSep_univ_sum Φ).trans ?_
  rw [bigSep_univ_sum, bigSep_univ_sum, hR, hR, hA, hA]
  rfl
/-- A product over all the semaphores. -/
theorem cell_split (Φ : Cell → sProp 𝕄) : bigSep Finset.univ Φ = iprop(Φ cBar ∗ bigSep Finset.univ fun k : Key => Φ (.inr k)) := by
  refine (bigSep_univ_sum Φ).trans ?_
  rw [show (Finset.univ : Finset Unit) = {()} from rfl, bigSep_singleton]
  rfl

/-! ## The launch's tokens -/

theorem tok_injective : Function.Injective (fun x : (Dev nD × Cell) × Bool => ((kcell x.1.1 x.1.2, 0, x.2) : GSem nD τ sig × ℕ × Bool)) := by
  rintro ⟨a, u⟩ ⟨a', u'⟩ h
  obtain ⟨h1, h2⟩ := Prod.mk.inj h
  obtain ⟨-, h3⟩ := Prod.mk.inj h2
  have := kcell_injective h1
  exact Prod.ext this h3

def ringCells : Finset (GSem nD τ sig) := Finset.univ.map ⟨fun x : Dev nD × Cell => kcell x.1 x.2, kcell_injective⟩
def ringToks : Finset (GSem nD τ sig × ℕ × Bool) := Finset.univ.map ⟨_, tok_injective⟩

/-- The launch's element. -/
def u₀ : UU := (initOf (Pipeline.cells cfgs cellOf_inj) (Pipeline.launchToks cfgs cellOf_inj), initOf ringCells ringToks)

/-- The tokens of the duties on a device's own semaphores, -/
def toks : sProp 𝕄 := bigSep Finset.univ fun x : Cell => bigSep Finset.univ fun d : Bool => dutyTok ER (kcell c x) 0 d
/-- and those of the duties it pays. -/
def payToks : sProp 𝕄 := bigSep Finset.univ fun x : Cell => bigSep Finset.univ fun d : Bool => dutyTok ER (kcell (tgt x d c) x) 0 d

/-- What the launch's element gives a device. -/
def G : sProp 𝕄 :=
  iprop((bigSep Finset.univ fun x : Cell => roundState ER (Rd D) (kcell c x) 0)
    ∗ ((bigSep Finset.univ fun x : Cell => atPos ER (kcell c x) 0 ∅ 0) ∗ bigSep Finset.univ fun x : Cell => reached ER (kcell c x) 0) ∗ toks c)

theorem fund_ring : BI.own (ER (initOf ringCells ringToks)) ⊢ (|==> bigSep Finset.univ (G D) : sProp 𝕄) := by
  have hX (Φ : GSem nD τ sig → sProp 𝕄) : bigSep ringCells Φ = bigSep Finset.univ fun c : Dev nD => bigSep Finset.univ fun x : Cell => Φ (kcell c x) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod, bigSep_univ_prod]; rfl
  iintro HX
  imod (Rounds.fund ER (Rd D) ringCells ringToks) $$ HX with ⟨Hst, Hr, Hat, Htok⟩
  imodintro
  ihave Hst' := (Entails.of_eq (hX fun g => roundState ER (Rd D) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The tokens passed round the ring. -/
theorem toks_around : (bigSep Finset.univ fun c : Dev nD => (toks c : sProp 𝕄)) ⊢ bigSep Finset.univ fun c : Dev nD => payToks c := by
  refine Entails.of_eq ?_
  unfold toks payToks
  refine (BI.bigSep_univ_comm fun (c : Dev nD) (x : Cell) => bigSep Finset.univ fun d : Bool => (dutyTok ER (kcell c x) 0 d : sProp 𝕄)).trans
    (Eq.trans (bigSep_congr fun x _ => ?_)
      (BI.bigSep_univ_comm fun (c : Dev nD) (x : Cell) => bigSep Finset.univ fun d : Bool => (dutyTok ER (kcell (tgt x d c) x) 0 d : sProp 𝕄)).symm)
  refine (BI.bigSep_univ_comm fun (c : Dev nD) (d : Bool) => (dutyTok ER (kcell c x) 0 d : sProp 𝕄)).trans
    (Eq.trans (bigSep_congr fun d _ => ?_) (BI.bigSep_univ_comm fun (c : Dev nD) (d : Bool) => (dutyTok ER (kcell (tgt x d c) x) 0 d : sProp 𝕄)).symm)
  rw [bigSep_univ_equiv (tgtE x d)]
  exact bigSep_congr fun c _ => by rw [tgtE_apply]

/-! ## The semaphores' invariants -/

abbrev osem : Key → SemLoc sig := fun k => .dma (keySem k)

theorem ownSems0_eq : (Pipeline.ownSems0 (Ix := Unit) (Name := ℕ) (U := UU) (Lvl := ℕ) (Val := Elt F) (τ := τ) osem c : sProp 𝕄)
    = bigSep Finset.univ fun k : Key => semVal (kcell c (.inr k)) 0 := rfl
theorem unscopedSems0_eq : (unscopedSems0 c : sProp 𝕄) = semVal (kcell c cBar) 0 := by
  unfold unscopedSems0; rw [bigSep_eq_bigSepL_of_eq [SemLoc.reg barS] (by decide) (by decide)]; rfl

theorem core_alloc :
    iprop(Pipeline.ownSems0 (Ix := Unit) (Name := ℕ) (U := UU) (Lvl := ℕ) (Val := Elt F) (τ := τ) osem c ∗ unscopedSems0 c ∗ G D c)
      ⊢ |={Set.univ}=> iprop((bigSep Finset.univ fun x : Cell => iprop(∃ κ : ℕ, cellInv ER (Rd D) κ (kcell c x)))
          ∗ ((bigSep Finset.univ fun x : Cell => atPos ER (kcell c x) 0 ∅ 0) ∗ bigSep Finset.univ fun x : Cell => reached ER (kcell c x) 0) ∗ toks c) := by
  unfold G
  rw [ownSems0_eq, unscopedSems0_eq]
  iintro ⟨Hos, Hus, Hst, Hat, Htok⟩
  imod (show iprop((bigSep Finset.univ fun x : Cell => semVal (kcell c x) 0) ∗ bigSep Finset.univ fun x : Cell => roundState ER (Rd D) (kcell c x) 0)
      ⊢ (|={Set.univ}=> bigSep Finset.univ fun x : Cell => iprop(∃ κ : ℕ, cellInv ER (Rd D) κ (kcell c x)) : sProp 𝕄) from by
        rw [← bigSep_sep']
        exact (bigSep_mono fun x _ => (Rounds.body_intro ER (Rd D) (kcell c x)).trans inv_alloc).trans (bigSep_fupd _ _)) $$ [Hos Hus Hst] with Hinv
  · isplitl [Hos Hus]
    · iapply (Entails.of_eq (cell_split (fun x => semVal (kcell c x) 0)).symm)
      isplitl [Hus] <;> iassumption
    · iexact Hst
  imodintro
  isplitl [Hinv]; · iexact Hinv
  isplitl [Hat]; · iexact Hat
  iexact Htok

/-- The invariants and the first rounds. -/
def records (K : Dev nD × Cell → ℕ) : sProp 𝕄 :=
  iprop((bigSep Finset.univ fun ck : Dev nD × Cell => cellInv ER (Rd D) (K ck) (kcell ck.1 ck.2))
    ∗ bigSep Finset.univ fun ck : Dev nD × Cell => reached ER (kcell ck.1 ck.2) 0)
instance records_persistent (K : Dev nD × Cell → ℕ) : BI.Persistent (records D K) := by unfold records; infer_instance

theorem recs_intro (K : Dev nD × Cell → ℕ) : iprop(records D K ∗ levAts L lv) ⊢ recs D K := by
  unfold records recs
  iintro ⟨⟨H, H'⟩, Hl⟩
  isplitl [H]; · iexact H
  isplitl [H'] <;> iassumption

/-- What stays with a device: its positions and the tokens it pays with. -/
def linear : sProp 𝕄 := iprop((bigSep Finset.univ fun x : Cell => atPos ER (kcell c x) 0 ∅ 0) ∗ payToks c)
/-- With the records. -/
def G' : sProp 𝕄 := iprop(∃ K, records D K ∗ linear c)

theorem regroup :
    (bigSep Finset.univ fun c : Dev nD => iprop((bigSep Finset.univ fun x : Cell => iprop(∃ κ : ℕ, cellInv ER (Rd D) κ (kcell c x)))
          ∗ ((bigSep Finset.univ fun x : Cell => atPos ER (kcell c x) 0 ∅ 0) ∗ bigSep Finset.univ fun x : Cell => reached ER (kcell c x) 0) ∗ toks c) : sProp 𝕄)
      ⊢ bigSep Finset.univ (G' D) := by
  rw [bigSep_sep', bigSep_sep', bigSep_sep', ← bigSep_univ_prod (fun ck : Dev nD × Cell => iprop(∃ κ : ℕ, cellInv ER (Rd D) κ (kcell ck.1 ck.2))),
    ← bigSep_univ_prod (fun ck : Dev nD × Cell => (reached ER (kcell ck.1 ck.2) 0 : sProp 𝕄))]
  iintro ⟨HI, ⟨Hat, #HR⟩, Htok⟩
  ihave HK := (BI.bigSep_exists_pi Finset.univ (fun (ck : Dev nD × Cell) (κ : ℕ) => (cellInv ER (Rd D) κ (kcell ck.1 ck.2) : sProp 𝕄))) $$ HI
  icases HK with ⟨%K, #HI⟩
  ihave Htk := (toks_around (F := F)) $$ Htok
  iapply (bigSep_with_persistent (R := records D K) (Φ := fun c => linear c) (Ψ := fun c => G' D c) fun c _ => by
    unfold G'
    iintro ⟨H, H'⟩
    iexists K
    isplitl [H] <;> iassumption)
  isplitr
  · unfold records; isplitl; · iexact HI
    iexact HR
  · unfold linear
    rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G D c) : sProp 𝕄)
    ⊢ |={Set.univ}=> bigSep Finset.univ (G' D) :=
  ((bigSep_mono fun c _ => core_alloc D c).trans (bigSep_fupd _ _)).trans (BI.fupd_mono (regroup D))

/-! ## The launch's credits -/

/-- The credits of the debts in a list. -/
def credL : List (Cell × Bool) → sProp 𝕄
  | [] => iprop(emp)
  | (x, _) :: l => iprop(credL l ∗ cred (tallyAt (kcell c x) () (amtC x)))

theorem credL_intro (l : List (Cell × Bool)) : (Pipeline.launchCred (fun d => owedL d l) c : sProp 𝕄) ⊢ credL c l := by
  induction l with
  | nil => exact Entails.of_eq (Pipeline.launchCred_zero c)
  | cons y l ih =>
    obtain ⟨x, u⟩ := y
    refine (Entails.of_eq (Pipeline.launchCred_add (fun d => owedL d l) (fun d => tallyAt (kcell (tgt x u d) x) () (amtC x)) c)).trans ?_
    have h := Pipeline.launchCred_tallyAt (Ix := Unit) (Name := ℕ) (U := UU) (Lvl := ℕ) (Val := Elt F) (nD := nD) (τ := τ) (sig := sig) (cellSem x) (tgt x u) (fun d => (tgtE x u).symm d)
      (fun d => by rw [← tgtE_apply]; exact (tgtE x u).apply_symm_apply d) (fun d => by rw [← tgtE_apply]; exact (tgtE x u).symm_apply_apply d) () (amtC x) c
    show _ ⊢ iprop(credL c l ∗ cred (tallyAt (kcell c x) () (amtC x)))
    iintro ⟨H, H'⟩
    isplitl [H]
    · iapply ih; iexact H
    · iapply h; iexact H'

theorem credL_rs (s : Fin 7) (l : List (Cell × Bool)) :
    (credL c (oRs s l) : sProp 𝕄) ⊢ iprop((b2 fun b => cred (tallyAt (kcell c (.inr (kRsR b s))) () (amtC (.inr (kRsR b s))))) ∗ credL c l) := by
  show iprop((credL c l ∗ cred (tallyAt (kcell c (.inr (kRsR true s))) () (amtC (.inr (kRsR true s))))) ∗ cred (tallyAt (kcell c (.inr (kRsR false s))) () (amtC (.inr (kRsR false s))))) ⊢ _
  iintro ⟨⟨H, Ht⟩, Hf⟩
  isplitr [H]
  · isplitl [Hf] <;> iassumption
  · iexact H
theorem credL_pc (t : Fin 7) (p : Fin 4) (l : List (Cell × Bool)) :
    (credL c (oPc t p l) : sProp 𝕄) ⊢ iprop((b2 fun b => cred (tallyAt (kcell c (.inr (kAgR b t p))) () (amtC (.inr (kAgR b t p))))) ∗ credL c l) := by
  show iprop((credL c l ∗ cred (tallyAt (kcell c (.inr (kAgR true t p))) () (amtC (.inr (kAgR true t p))))) ∗ cred (tallyAt (kcell c (.inr (kAgR false t p))) () (amtC (.inr (kAgR false t p))))) ⊢ _
  iintro ⟨⟨H, Ht⟩, Hf⟩
  isplitr [H]
  · isplitl [Hf] <;> iassumption
  · iexact H
theorem credL_ag (t : Fin 7) (l : List (Cell × Bool)) :
    (credL c (oAg t l) : sProp 𝕄) ⊢ iprop((a8 fun b p => cred (tallyAt (kcell c (.inr (kAgR b t p))) () (amtC (.inr (kAgR b t p))))) ∗ credL c l) := by
  iintro H
  ihave H := (credL_pc c t 0 _) $$ H
  icases H with ⟨H0, H⟩
  ihave H := (credL_pc c t 1 _) $$ H
  icases H with ⟨H1, H⟩
  ihave H := (credL_pc c t 2 _) $$ H
  icases H with ⟨H2, H⟩
  ihave H := (credL_pc c t 3 _) $$ H
  icases H with ⟨H3, H⟩
  isplitr [H]
  · isplitl [H0]; · iexact H0
    isplitl [H1]; · iexact H1
    isplitl [H2]; · iexact H2
    iexact H3
  · iexact H

/-- A device's launch credits. -/
def creds : sProp 𝕄 :=
  iprop(cred (tallyAt (kcell c cBar) () 2) ∗ (r7 fun s => b2 fun b => cred (tallyAt (kcell c (.inr (kRsR b s))) () (amtC (.inr (kRsR b s)))))
    ∗ r7 fun t => a8 fun b p => cred (tallyAt (kcell c (.inr (kAgR b t p))) () (amtC (.inr (kAgR b t p)))))

theorem creds_intro : (Pipeline.launchCred O₀ c : sProp 𝕄) ⊢ creds c := by
  refine (credL_intro c lAll).trans ?_
  show iprop((credL c lR0 ∗ cred (tallyAt (kcell c cBar) () 1)) ∗ cred (tallyAt (kcell c cBar) () 1)) ⊢ _
  unfold creds
  iintro ⟨⟨H, Hb⟩, Hb'⟩
  ihave H := (credL_rs c 0 lR1) $$ H
  icases H with ⟨R0, H⟩
  ihave H := (credL_rs c 1 lR2) $$ H
  icases H with ⟨R1, H⟩
  ihave H := (credL_rs c 2 lR3) $$ H
  icases H with ⟨R2, H⟩
  ihave H := (credL_rs c 3 lR4) $$ H
  icases H with ⟨R3, H⟩
  ihave H := (credL_rs c 4 lR5) $$ H
  icases H with ⟨R4, H⟩
  ihave H := (credL_rs c 5 lR6) $$ H
  icases H with ⟨R5, H⟩
  ihave H := (credL_rs c 6 lA0) $$ H
  icases H with ⟨R6, H⟩
  ihave H := (credL_ag c 0 lA1) $$ H
  icases H with ⟨A0, H⟩
  ihave H := (credL_ag c 1 lA2) $$ H
  icases H with ⟨A1, H⟩
  ihave H := (credL_ag c 2 lA3) $$ H
  icases H with ⟨A2, H⟩
  ihave H := (credL_ag c 3 lA4) $$ H
  icases H with ⟨A3, H⟩
  ihave H := (credL_ag c 4 lA5) $$ H
  icases H with ⟨A4, H⟩
  ihave H := (credL_ag c 5 lA6) $$ H
  icases H with ⟨A5, H⟩
  ihave H := (credL_ag c 6 []) $$ H
  icases H with ⟨A6, -⟩
  isplitl [Hb Hb']
  · iapply (show iprop(cred (tallyAt (kcell c cBar) () 1) ∗ cred (tallyAt (kcell c cBar) () 1)) ⊢ (cred (tallyAt (kcell c cBar) () 2) : sProp 𝕄) from by
      rw [show (2 : ℕ) = 1 + 1 from rfl, ← tallyAt_add]; exact (cred_add _ _).2)
    isplitl [Hb] <;> iassumption
  isplitr [A0 A1 A2 A3 A4 A5 A6]
  · isplitl [R0]; · iexact R0
    isplitl [R1]; · iexact R1
    isplitl [R2]; · iexact R2
    isplitl [R3]; · iexact R3
    isplitl [R4]; · iexact R4
    isplitl [R5] <;> iassumption
  · isplitl [A0]; · iexact A0
    isplitl [A1]; · iexact A1
    isplitl [A2]; · iexact A2
    isplitl [A3]; · iexact A3
    isplitl [A4]; · iexact A4
    isplitl [A5] <;> iassumption

/-! ## What the body takes and leaves -/

/-- The tokens a device pays with, phase by phase. -/
theorem payToks_split : (payToks c : sProp 𝕄) ⊢ iprop((dutyTok ER (kcell (prv c) cBar) 0 false ∗ dutyTok ER (kcell (nxt c) cBar) 0 true)
    ∗ ((r7 fun s => b2 fun b => dutyTok ER (kcell c (.inr (kRsS b s))) 0 false) ∗ r7 fun s => b2 fun b => dutyTok ER (kcell (nb b c) (.inr (kRsR b s))) 0 false)
    ∗ (r7 fun t => a8 fun b p => dutyTok ER (kcell c (.inr (kAgS b t p))) 0 false) ∗ r7 fun t => a8 fun b p => dutyTok ER (kcell (nb b c) (.inr (kAgR b t p))) 0 false) := by
  unfold payToks
  iintro H
  ihave H := (Entails.of_eq (cell_split _)) $$ H
  icases H with ⟨Hb, H⟩
  isplitl [Hb]
  · iapply (Entails.of_eq (b2_eq (fun d : Bool => dutyTok ER (kcell (tgt cBar d c) cBar) 0 d))); iexact Hb
  have h : (bigSep Finset.univ fun k : Key => bigSep Finset.univ fun d : Bool => (dutyTok ER (kcell (tgt (.inr k) d c) (.inr k)) 0 d : sProp 𝕄))
      ⊢ bigSep Finset.univ fun k : Key => dutyTok ER (kcell (tgt (.inr k) false c) (.inr k)) 0 false := bigSep_mono fun k _ => bigSep_elim (Finset.mem_univ false)
  ihave H := h $$ H
  ihave H := (Entails.of_eq (key_split _)) $$ H
  iexact H

theorem ghost_intro : iprop(linear c ∗ creds c) ⊢ ghost (F := F) c := by
  have hr : (r7 fun s => b2 fun b => rsIn0 (F := F) c b s)
      = iprop((r7 fun s => b2 fun b => atPos ER (kcell c (.inr (kRsS b s))) 0 ∅ 0) ∗ (r7 fun s => b2 fun b => atPos ER (kcell c (.inr (kRsR b s))) 0 ∅ 0)
        ∗ (r7 fun s => b2 fun b => dutyTok ER (kcell c (.inr (kRsS b s))) 0 false) ∗ (r7 fun s => b2 fun b => dutyTok ER (kcell (nb b c) (.inr (kRsR b s))) 0 false)
        ∗ r7 fun s => b2 fun b => cred (tallyAt (kcell c (.inr (kRsR b s))) () (amtC (.inr (kRsR b s))))) := by
    unfold rsIn0; rw [rb_sep, rb_sep, rb_sep, rb_sep]
  have ha : (r7 fun t => a8 fun b p => agIn0 (F := F) c b t p)
      = iprop((r7 fun t => a8 fun b p => atPos ER (kcell c (.inr (kAgS b t p))) 0 ∅ 0) ∗ (r7 fun t => a8 fun b p => atPos ER (kcell c (.inr (kAgR b t p))) 0 ∅ 0)
        ∗ (r7 fun t => a8 fun b p => dutyTok ER (kcell c (.inr (kAgS b t p))) 0 false) ∗ (r7 fun t => a8 fun b p => dutyTok ER (kcell (nb b c) (.inr (kAgR b t p))) 0 false)
        ∗ r7 fun t => a8 fun b p => cred (tallyAt (kcell c (.inr (kAgR b t p))) () (amtC (.inr (kAgR b t p))))) := by
    unfold agIn0; rw [ra_sep, ra_sep, ra_sep, ra_sep]
  unfold linear creds ghost
  rw [hr, ha]
  iintro ⟨⟨Hat, Htok⟩, HcB, HcR, HcA⟩
  ihave Htok := (payToks_split c) $$ Htok
  icases Htok with ⟨HtB, ⟨HtRS, HtRR⟩, HtAS, HtAR⟩
  ihave Hat := (Entails.of_eq (cell_split _)) $$ Hat
  icases Hat with ⟨HaB, Hat⟩
  ihave Hat := (Entails.of_eq (key_split _)) $$ Hat
  icases Hat with ⟨⟨HaRS, HaRR⟩, HaAS, HaAR⟩
  isplitl [HtB]; · iexact HtB
  isplitl [HcB HaB]; · isplitl [HcB] <;> iassumption
  isplitl [HaRS HaRR HtRS HtRR HcR]
  · isplitl [HaRS]; · iexact HaRS
    isplitl [HaRR]; · iexact HaRR
    isplitl [HtRS]; · iexact HtRS
    isplitl [HtRR] <;> iassumption
  · isplitl [HaAS]; · iexact HaAS
    isplitl [HaAR]; · iexact HaAR
    isplitl [HtAS]; · iexact HtAS
    isplitl [HtAR] <;> iassumption

theorem zeros_exit : zeros (F := F) c ⊢ Pipeline.ownSems0 (Ix := Unit) (Name := ℕ) (U := UU) (Lvl := ℕ) (Val := Elt F) (τ := τ) osem c := by
  rw [ownSems0_eq, key_split]
  unfold zeros
  rw [rb_sep, ra_sep]

/-! ## Whole buffers -/

theorem pts_full {s : Shape} {e : EltTy} (m : Memref sig .tc .vmem s e) (hm : m.view.set = Finset.univ) (q : PosShare TreeShare)
    (f : Buf (Elt F) (m.view.loc (c : Thread nD τ))) :
    (m.view.loc (c : Thread nD τ) ↦{q} f : sProp 𝕄) = wholeP m q c (m.view.read (Elt F) f) := by
  rw [← pts_rep m q c f _ rfl, hm]
theorem ex_full {s : Shape} {e : EltTy} (m : Memref sig .tc .vmem s e) (hm : m.view.set = Finset.univ) :
    iprop(∃ f : Buf (Elt F) (m.view.loc (c : Thread nD τ)), m.view.loc (c : Thread nD τ) ↦{fullShare} f) ⊢ (iprop(∃ X, wholeP m fullShare c X) : sProp 𝕄) := by
  iintro ⟨%f, H⟩
  iexists _
  iapply (Entails.of_eq (pts_full c m hm fullShare f)); iexact H
theorem ex_full' {s : Shape} {e : EltTy} (m : Memref sig .tc .vmem s e) (hm : m.view.set = Finset.univ) :
    iprop(∃ X, wholeP m fullShare c X) ⊢ (iprop(∃ f : Buf (Elt F) (m.view.loc (c : Thread nD τ)), m.view.loc (c : Thread nD τ) ↦{fullShare} f) : sProp 𝕄) := by
  iintro ⟨%X, H⟩
  iexists (m.view.rep X)
  iapply (Entails.of_eq (show (wholeP m fullShare c X : sProp 𝕄) = _ from by unfold wholeP; rw [hm])); iexact H

theorem set_whole' (b : Ref sig .tc) : (Memref.whole b).view.set = Finset.univ := by rw [Memref.view_whole, View.set_whole]

theorem scr_intro : Pipeline.scopedRest (Ix := Unit) (Name := ℕ) (U := UU) (Lvl := ℕ) (Val := Elt F) spec0 c ⊢ scr (F := F) c := by
  rw [scopedRest0_eq]
  unfold scr
  iintro ⟨H0, H1, H2, H3, H4, H5, H6, H7, H8, H9, H10⟩
  isplitl [H0]; · iapply (ex_full c wM (set_whole' _)); iexact H0
  isplitl [H1]; · iapply (ex_full c bM (set_whole' _)); iexact H1
  isplitl [H2]; · iapply (ex_full c pM (set_whole' _)); iexact H2
  isplitl [H3 H4]
  · isplitl [H3]
    · iapply (ex_full c (rsM false) (set_whole' _)); iexact H3
    · iapply (ex_full c (rsM true) (set_whole' _)); iexact H4
  isplitl [H5 H6]
  · isplitl [H5]
    · iapply (ex_full c (agM false) (set_whole' _)); iexact H5
    · iapply (ex_full c (agM true) (set_whole' _)); iexact H6
  isplitl [H7 H8]
  · isplitl [H7]
    · iapply (ex_full c (stM false) (set_whole' _)); iexact H7
    · iapply (ex_full c (stM true) (set_whole' _)); iexact H8
  · isplitl [H9]
    · iapply (ex_full c (sgM false) (set_whole' _)); iexact H9
    · iapply (ex_full c (sgM true) (set_whole' _)); iexact H10
theorem scr_exit : scr (F := F) c ⊢ Pipeline.scopedRest (Ix := Unit) (Name := ℕ) (U := UU) (Lvl := ℕ) (Val := Elt F) spec0 c := by
  rw [scopedRest0_eq]
  unfold scr
  iintro ⟨H0, H1, H2, ⟨H3, H4⟩, ⟨H5, H6⟩, ⟨H7, H8⟩, H9, H10⟩
  isplitl [H0]; · iapply (ex_full' c wM (set_whole' _)); iexact H0
  isplitl [H1]; · iapply (ex_full' c bM (set_whole' _)); iexact H1
  isplitl [H2]; · iapply (ex_full' c pM (set_whole' _)); iexact H2
  isplitl [H3]; · iapply (ex_full' c (rsM false) (set_whole' _)); iexact H3
  isplitl [H4]; · iapply (ex_full' c (rsM true) (set_whole' _)); iexact H4
  isplitl [H5]; · iapply (ex_full' c (agM false) (set_whole' _)); iexact H5
  isplitl [H6]; · iapply (ex_full' c (agM true) (set_whole' _)); iexact H6
  isplitl [H7]; · iapply (ex_full' c (stM false) (set_whole' _)); iexact H7
  isplitl [H8]; · iapply (ex_full' c (stM true) (set_whole' _)); iexact H8
  isplitl [H9]; · iapply (ex_full' c (sgM false) (set_whole' _)); iexact H9
  iapply (ex_full' c (sgM true) (set_whole' _)); iexact H10

end Cert.KernelIdeal.Moe
-- ==== Proof.Run.lean ====
/- The launch of the eight devices: every execution ends, with the inputs unchanged, every semaphore at zero and every
   device's result as `outC` computes it. -/
module

public import proofs.«01_k».proof.Proof.Deal
public import Idealize.ShloMosaic.Lib.Pipeline.ValueKit.Geometry
public import Idealize.ShloMosaic.Lib.Pipeline.CollectiveSegs

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The state at the launch. -/
def s₀ : MemSt nD τ sig (Elt F) := ⟨m, fun _ => 0, ρ⟩

/-- The inputs as the device's body finds them. -/
def x0 (c : Dev nD) : (cc0_stg0_0 : Ref sig .tc).ty.Contents (Elt F) := (win0_0.blk (0 : Fin 1)).view.read (Elt F) ((s₀ m ρ).mem ((c : Thread nD τ).loc main_arg0))
def x1 (c : Dev nD) : (cc0_stg1_0 : Ref sig .tc).ty.Contents (Elt F) := (win0_1.blk (0 : Fin 1)).view.read (Elt F) ((s₀ m ρ).mem ((c : Thread nD τ).loc main_arg1))
def x2 (c : Dev nD) : (cc0_stg2_0 : Ref sig .tc).ty.Contents (Elt F) := (win0_2.blk (0 : Fin 1)).view.read (Elt F) ((s₀ m ρ).mem ((c : Thread nD τ).loc main_arg2))
def x3 (c : Dev nD) : (cc0_stg3_0 : Ref sig .tc).ty.Contents (Elt F) := (win0_3.blk (0 : Fin 1)).view.read (Elt F) ((s₀ m ρ).mem ((c : Thread nD τ).loc main_arg3))
def ins (c : Dev nD) : Ins F := ⟨x0 m ρ c, x1 m ρ c, x2 m ρ c, x3 m ρ c⟩

/-- The result on device `c`. -/
def outAt (c : Dev nD) : (cc0_stg4_0 : Ref sig .tc).ty.Contents (Elt F) := outC (ins m ρ) c

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device's body starts from. -/
def start (c : Dev nD) : sProp 𝕄 := iprop(G' (ins m ρ) c ∗ creds c ∗ levAts L lv)
def Φ₀ (c : Dev nD) : sProp 𝕄 := iprop(start m ρ c ∗ scr c)
/-- What it ends with. -/
def Φ₁ (c : Dev nD) : sProp 𝕄 := iprop(semVal (kcell c cBar) 0 ∗ zeros c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => x0 m ρ c
    | ⟨1, _⟩ => x1 m ρ c
    | ⟨2, _⟩ => x2 m ρ c
    | ⟨3, _⟩ => x3 m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 5)).fetch t = true := by rw [fin_N t]; rfl
theorem fetch_1 (t : Fin cfg0.N) : (cfg0.win (1 : Fin 5)).fetch t = true := by rw [fin_N t]; rfl
theorem fetch_2 (t : Fin cfg0.N) : (cfg0.win (2 : Fin 5)).fetch t = true := by rw [fin_N t]; rfl
theorem fetch_3 (t : Fin cfg0.N) : (cfg0.win (3 : Fin 5)).fetch t = true := by rw [fin_N t]; rfl

/-! ## The body -/

/-- A staging buffer's contents. -/
abbrev stg (c : Dev nD) (b : Ref sig .tc) (X : b.ty.Contents (Elt F)) : sProp 𝕄 :=
  owns (Ix := Unit) (Name := ℕ) (U := UU) (Lvl := ℕ) (c : Thread nD τ) (Memref.whole b) fullShare X

def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop(Φ₁ c ∗ (dats m ρ 0 c).owesAt () t₀.succ ∗ stg c cc0_stg0_0 (x0 m ρ c) ∗ stg c cc0_stg1_0 (x1 m ρ c) ∗ stg c cc0_stg2_0 (x2 m ρ c)
    ∗ stg c cc0_stg3_0 (x3 m ρ c) ∗ stg c cc0_stg4_0 (outAt m ρ c))

theorem stg_in {s : Shape} {e : EltTy} (mm : Memref sig .tc .vmem s e) (hm : mm.view.set = Finset.univ) (c : Dev nD) (X : s.Idx → Elt F e) :
    (owns (Ix := Unit) (Name := ℕ) (U := UU) (Lvl := ℕ) (c : Thread nD τ) mm fullShare X : sProp 𝕄) ⊢ wholeP mm fullShare c X := by
  unfold owns
  iintro ⟨%f, %hf, H⟩
  subst hf
  iapply (Entails.of_eq (pts_rep mm fullShare c f _ rfl)); iexact H
theorem stg_out {s : Shape} {e : EltTy} (mm : Memref sig .tc .vmem s e) (c : Dev nD) (X : s.Idx → Elt F e) :
    wholeP mm fullShare c X ⊢ (owns (Ix := Unit) (Name := ℕ) (U := UU) (Lvl := ℕ) (c : Thread nD τ) mm fullShare X : sProp 𝕄) := by
  unfold owns wholeP
  iintro H
  iexists (mm.view.rep X)
  isplitr
  · ipureintro; exact View.read_rep _ _
  iexact H

set_option maxRecDepth 40000 in
/-- The body on device `c`. -/
theorem body_obligation (c : Dev nD) : BodyObligation (dats (F := F) m ρ 0 c) (defs₀ (F := F)) 𝒱₀ () Set.univ := fun t => by
  rw [fin_N t]
  rw [bigSep_W0, bigSep_W0]
  show bodyPre m ρ c ⊢ wpd c (cc0__moe_body xM (Memref.isWhole_whole _) rM (Memref.isWhole_whole _) iM (Memref.isWhole_whole _) eM (Memref.isWhole_whole _)
    oM (Memref.isWhole_whole _) wM (Memref.isWhole_whole _) bM (Memref.isWhole_whole _) pM (Memref.isWhole_whole _)
    (rsM false) (Memref.isWhole_whole _) (rsM true) (Memref.isWhole_whole _) (agM false) (Memref.isWhole_whole _) (agM true) (Memref.isWhole_whole _)
    (stM false) (Memref.isWhole_whole _) (stM true) (Memref.isWhole_whole _) (sgM false) (Memref.isWhole_whole _) (sgM true) (Memref.isWhole_whole _)
    cc0_scratch11 cc0_scratch12 cc0_scratch13 cc0_scratch14 cc0_scratch15 cc0_scratch16 cc0_scratch17 cc0_scratch18) (fun _ => bodyPost m ρ c)
  rw [cc0__moe_body_eq_skeleton, body_eq]
  unfold bodyPre Φ₀ start G' wpd body
  rw [wp_deviceId]
  iintro ⟨⟨⟨⟨%K, #HR, Hlin⟩, Hcr, #Hlev⟩, Hscr⟩, Ho, ⟨%d0, Hx⟩, ⟨%d1, Hr⟩, ⟨%d2, Hi⟩, ⟨%d3, He⟩, ⟨%d4, Hout⟩⟩
  unfold Dat.owesAt Pipeline.owesWithin
  icases Ho with ⟨%W, %hW, HO⟩
  have e0 : (dats m ρ 0 c).before (0 : Fin 5) t₀ d0 = x0 m ρ c := by unfold Dat.before; rw [if_pos (fetch_0 t₀)]; rfl
  have e1 : (dats m ρ 0 c).before (1 : Fin 5) t₀ d1 = x1 m ρ c := by unfold Dat.before; rw [if_pos (fetch_1 t₀)]; rfl
  have e2 : (dats m ρ 0 c).before (2 : Fin 5) t₀ d2 = x2 m ρ c := by unfold Dat.before; rw [if_pos (fetch_2 t₀)]; rfl
  have e3 : (dats m ρ 0 c).before (3 : Fin 5) t₀ d3 = x3 m ρ c := by unfold Dat.before; rw [if_pos (fetch_3 t₀)]; rfl
  rw [e0, e1, e2, e3]
  iapply (wp_rest (ins m ρ) K c) $$ [HO Hlin Hcr Hscr Hx Hr Hi He Hout]
  · isplitr
    · iapply (recs_intro (ins m ρ) K); isplitr; · iexact HR
      iexact Hlev
    isplitl [HO]; · unfold ow; iexists W; iexact HO
    isplitl [Hlin Hcr]; · iapply (ghost_intro c); isplitl [Hlin] <;> iassumption
    isplitl [Hscr]; · iexact Hscr
    isplitl [Hx]; · iapply (stg_in xM (set_whole' _)); iexact Hx
    isplitl [Hr]; · iapply (stg_in rM (set_whole' _)); iexact Hr
    isplitl [Hi]; · iapply (stg_in iM (set_whole' _)); iexact Hi
    isplitl [He]; · iapply (stg_in eM (set_whole' _)); iexact He
    iexists _; iapply (stg_in oM (set_whole' _)); iexact Hout
  unfold ow
  iintro ⟨⟨%W', HO⟩, HzB, Hz, Hscr, Hx, Hr, Hi, He, Hout⟩
  unfold wpd
  rw [wp_ret]
  imodintro
  unfold bodyPost Φ₁
  isplitl [HzB Hz Hscr]
  · isplitl [HzB]; · iexact HzB
    isplitl [Hz] <;> iassumption
  isplitl [HO]
  · unfold Dat.owesAt Pipeline.owesWithin
    iexists W'
    isplitr
    · ipureintro; exact fun _ _ => Or.inl trivial
    · iexact HO
  isplitl [Hx]; · iapply (stg_out xM); iexact Hx
  isplitl [Hr]; · iapply (stg_out rM); iexact Hr
  isplitl [Hi]; · iapply (stg_out iM); iexact Hi
  isplitl [He]; · iapply (stg_out eM); iexact He
  iapply (stg_out oM); iexact Hout

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m ρ) c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scr_intro c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq]
  unfold Φ₁
  iintro ⟨HzB, Hz, Hr⟩
  isplitl [HzB]; · iexact HzB
  isplitl [Hz]
  · iapply (zeros_exit c); iexact Hz
  · iapply (scr_exit c); iexact Hr

theorem waits (c : Dev nD) : (levAts L lv : sProp 𝕄) ⊢ Pipeline.cellsWaits cfgs (dats m ρ) () 0 c :=
  Pipeline.cellsWaits_intro cfgs (dats m ρ) () 0 c fun w s t => by
    have h : decode (.dma ((cfg0.win w).sem s)) = none := by
      fin_cases w <;> fin_cases s <;> exact decode_none _ (by decide)
    rcases t with ⟨_ | _, ht⟩
    · exact mayWait_sem c _ lAll 0 (by rw [h]; exact Nat.le_refl 0) (by decide)
    · exact mayWait_sem c _ [] 0 (by rw [h]; exact Nat.le_refl 0) (by decide)

/-! ## The run -/

/-- The windows' arrays at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m ρ)) (G' := G' (ins m ρ)) (u₀ := u₀)
    (hu₀ := by
      unfold u₀
      iintro Hu
      ihave H := (ownU_pair _ _) $$ Hu
      icases H with ⟨HP, HX⟩
      imod (fund_ring (ins m ρ)) $$ HX with HG
      imodintro
      isplitl [HP] <;> iassumption)
    (hglob := glob (ins m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs' arrays are unchanged, -/
theorem finalA_in (c : Dev nD) (w : Fin cfg0.W) (h : (cfg0.win w).isOut = false) :
    finalA m ρ c w = (s₀ m ρ).mem ((cfg0.win w).arr.view.loc (c : Thread nD τ)) := (dats m ρ 0 c).arrAt_in w h _
/-- and the result's is what the body leaves. -/
theorem finalA_out (c : Dev nD) : finalA m ρ c (4 : Fin 5) = outAt m ρ c :=
  (dats m ρ 0 c).arrAt_eq_of_after_last (4 : Fin 5) t₀ (by decide +kernel) (outAt m ρ c) (fun _ => rfl)

/-- Every execution ends with the inputs unchanged, the results computed and the semaphores at zero. -/
theorem run_all : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run _ _ _).mono (fun r h => ⟨fun c => ⟨(h.1 c (4 : Fin 5)).trans (finalA_out m ρ c),
    (h.1 c (0 : Fin 5)).trans (finalA_in m ρ c _ rfl), (h.1 c (1 : Fin 5)).trans (finalA_in m ρ c _ rfl),
    (h.1 c (2 : Fin 5)).trans (finalA_in m ρ c _ rfl), (h.1 c (3 : Fin 5)).trans (finalA_in m ρ c _ rfl)⟩, h.2⟩) (run_main m ρ)

end Cert.KernelIdeal.Moe
-- ==== Proof.Frames.lean ====
/- The three programs run, leave their arguments unchanged and every semaphore at zero. -/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Frames

open Idealize.ShloMosaic Idealize.SL.Sem

theorem kernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Moe.run_all (F := Ideal) m ρ)

set_option maxRecDepth 8000 in
/-- The kernel's program and its idealization have one text. -/
theorem body_same : Cert.Kernel.cc0__moe_body (F := Bits) = Cert.KernelIdeal.cc0__moe_body (F := Bits) := rfl
set_option maxRecDepth 8000 in
theorem defs₀_same : Cert.Kernel.defs₀ (F := Bits) = Cert.KernelIdeal.defs₀ (F := Bits) := by
  unfold Cert.Kernel.defs₀ Cert.KernelIdeal.defs₀
  refine congrArg Defs.onTc (funext fun l => ?_)
  match l with
  | ⟨0, _⟩ =>
    funext x
    obtain ⟨t, s⟩ := x
    exact (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _) _) _) _) _) _) _) _) _) _) _) _) _) _) _) _) _) _) _)
  | ⟨_ + 1, h⟩ => exact absurd h (Nat.not_lt.2 (Nat.le_add_left _ _))
theorem defs_same : Cert.Kernel.defs (F := Bits) = Cert.KernelIdeal.defs (F := Bits) := congrArg (Pipeline.defs Cert.KernelIdeal.pcfgs) defs₀_same

theorem kernelBits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (Cert.KernelIdeal.Moe.run_all (F := Bits) m ρ)

set_option maxRecDepth 8000 in
theorem kernel : Cert.quiescent_Kernel (hKernel := Cert.Kernel.Gen.facts) := fun m ρ _ => by
  have h := kernelBits m ρ
  rw [← defs_same] at h
  exact h

theorem referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩) (Cert.ReferenceIdeal.Value.run (F := Ideal) m ρ)

end Cert.Frames
-- ==== Proof.Mix.lean ====
/- The mathematics of the layer over the extended reals, without any program: the scores' exponentials, the shares of the two
   chosen experts, and the mixture of the experts' products. Where the scores are real, the shares of the exponentials are the
   shares of the probabilities, and the mixture may be taken before the products or after them. -/
module

public import Idealize.ShloMosaic.PureOps.Ideal
public import Idealize.ShloMosaic.PureOps.Ideal.Laws

@[expose] public section

noncomputable section

namespace Cert.Mix

open Idealize.ShloMosaic
open scoped BigOperators

/-- The greatest score of a row. -/
def top (s : Fin 64 → EReal) : EReal := Finset.univ.fold max (Ideal.ofBits .f32 0xFF800000#32) s
/-- The exponential of a score, the greatest subtracted. -/
def ex (s : Fin 64 → EReal) (e : Fin 64) : EReal := Ideal.exp (s e - top s)
/-- The probability of an expert. -/
def prob (s : Fin 64 → EReal) (e : Fin 64) : EReal := Ideal.div (ex s e) (∑ e, ex s e)
/-- The value at the expert that the word names, zero where it names none. -/
def pick (w : BitVec 32) (f : Fin 64 → EReal) : EReal := ∑ e, if BitVec.ofNat 32 e.val = w then f e else 0
/-- The share of the expert that `w` names in the values at the two experts that `a` and `b` name. -/
def share (f : Fin 64 → EReal) (a b w : BitVec 32) : EReal := Ideal.div (pick w f) (pick a f + pick b f)

theorem top_real {s : Fin 64 → EReal} {t : Fin 64 → ℝ} (h : ∀ e, s e = t e) : ∃ m : ℝ, top s = m := by
  have hb : Ideal.ofBits .f32 0xFF800000#32 = (⊥ : EReal) := by simp [Ideal.ofBits, Ideal.ieee]
  obtain ⟨e, -, he⟩ := Finset.exists_mem_eq_sup Finset.univ ⟨(0 : Fin 64), Finset.mem_univ _⟩ s
  refine ⟨t e, ?_⟩
  unfold top
  rw [hb]
  exact he.trans (h e)

/-- Of real scores the exponentials are positive reals. -/
theorem ex_real {s : Fin 64 → EReal} {t : Fin 64 → ℝ} (h : ∀ e, s e = t e) :
    ∃ E : Fin 64 → ℝ, (∀ e, 0 < E e) ∧ ∀ e, ex s e = E e := by
  obtain ⟨m, hm⟩ := top_real h
  refine ⟨fun e => Real.exp (t e - m), fun e => Real.exp_pos _, fun e => ?_⟩
  unfold ex
  rw [hm, h e, ← EReal.coe_sub]
  exact Ideal.exp_coe _

/-- `pick` of reals. -/
def pickR (w : BitVec 32) (E : Fin 64 → ℝ) : ℝ := ∑ e, if BitVec.ofNat 32 e.val = w then E e else 0

theorem coe_sum {n : ℕ} (E : Fin n → ℝ) : ((∑ e, E e : ℝ) : EReal) = ∑ e, (E e : EReal) := by
  classical
  refine Finset.induction_on (Finset.univ : Finset (Fin n)) (by simp) fun a S ha ih => ?_
  rw [Finset.sum_insert ha, Finset.sum_insert ha, EReal.coe_add, ih]

theorem pick_coe (w : BitVec 32) {f : Fin 64 → EReal} {E : Fin 64 → ℝ} (h : ∀ e, f e = E e) : pick w f = pickR w E := by
  unfold pick pickR
  rw [coe_sum]
  refine Finset.sum_congr rfl fun e _ => ?_
  rw [h e]
  split <;> simp

theorem pickR_nonneg (w : BitVec 32) {E : Fin 64 → ℝ} (h : ∀ e, 0 < E e) : 0 ≤ pickR w E :=
  Finset.sum_nonneg fun e _ => by split <;> [exact (h e).le; exact le_rfl]

theorem pickR_pos {w : BitVec 32} {E : Fin 64 → ℝ} (h : ∀ e, 0 < E e) {e : Fin 64} (he : BitVec.ofNat 32 e.val = w) : 0 < pickR w E :=
  Finset.sum_pos' (fun e _ => by split <;> [exact (h e).le; exact le_rfl]) ⟨e, Finset.mem_univ _, by rw [if_pos he]; exact h e⟩

theorem pickR_div (w : BitVec 32) (E : Fin 64 → ℝ) (S : ℝ) : pickR w (fun e => E e / S) = pickR w E / S := by
  unfold pickR
  rw [Finset.sum_div]
  exact Finset.sum_congr rfl fun e _ => by split <;> simp

theorem div_real (a : ℝ) {b : ℝ} (h : b ≠ 0) : Ideal.div (a : EReal) (b : EReal) = ((a / b : ℝ) : EReal) := by
  rw [Ideal.div_coe h, ← EReal.coe_mul, mul_one_div]

/-- A word that names no expert picks nothing. -/
theorem pick_none {w : BitVec 32} (h : ∀ e : Fin 64, BitVec.ofNat 32 e.val ≠ w) (f : Fin 64 → EReal) : pick w f = 0 :=
  Finset.sum_eq_zero fun e _ => if_neg (h e)

/-- Where a word names an expert and the scores are real, the shares of the exponentials and of the probabilities are the same
    nonnegative real. -/
theorem share_eq {s : Fin 64 → EReal} {t : Fin 64 → ℝ} (h : ∀ e, s e = t e) (a b w : BitVec 32)
    (hn : ∃ e : Fin 64, BitVec.ofNat 32 e.val = a ∨ BitVec.ofNat 32 e.val = b) :
    ∃ p : ℝ, 0 ≤ p ∧ share (ex s) a b w = p ∧ share (prob s) a b w = p := by
  obtain ⟨E, hE, he⟩ := ex_real h
  have hS : 0 < ∑ e, E e := Finset.sum_pos (fun e _ => hE e) ⟨(0 : Fin 64), Finset.mem_univ _⟩
  have hp : ∀ e, prob s e = ((E e / ∑ e, E e : ℝ) : EReal) := fun e => by
    unfold prob
    rw [he e, Finset.sum_congr rfl fun e _ => he e, ← coe_sum, div_real _ hS.ne']
  have hab : 0 < pickR a E + pickR b E := by
    obtain ⟨e, ha | hb⟩ := hn
    · exact add_pos_of_pos_of_nonneg (pickR_pos hE ha) (pickR_nonneg b hE)
    · exact add_pos_of_nonneg_of_pos (pickR_nonneg a hE) (pickR_pos hE hb)
  refine ⟨pickR w E / (pickR a E + pickR b E), div_nonneg (pickR_nonneg w hE) hab.le, ?_, ?_⟩
  · unfold share
    rw [pick_coe w he, pick_coe a he, pick_coe b he, ← EReal.coe_add, div_real _ hab.ne']
  · unfold share
    rw [pick_coe w hp, pick_coe a hp, pick_coe b hp, ← EReal.coe_add, pickR_div, pickR_div, pickR_div, ← add_div,
      div_real _ (div_pos hab hS).ne', div_div_div_cancel_right₀ hS.ne']

theorem mul_sum_real {p : ℝ} (hp : 0 ≤ p) {ι : Type} [Fintype ι] (f : ι → EReal) : ∑ i, (p : EReal) * f i = (p : EReal) * ∑ i, f i := by
  classical
  refine Finset.induction_on (Finset.univ : Finset ι) (by simp) fun a S ha ih => ?_
  rw [Finset.sum_insert ha, Finset.sum_insert ha, ih,
    EReal.left_distrib_of_nonneg_of_ne_top (EReal.coe_nonneg.mpr hp) (EReal.coe_ne_top p)]

/-- The mixture taken before the products is the mixture taken after them, for nonnegative real weights. -/
theorem mix {p q : ℝ} (hp : 0 ≤ p) (hq : 0 ≤ q) (a b : BitVec 32) (x : Fin 512 → EReal) (W : Fin 64 → Fin 512 → EReal) :
    ∑ e : Fin 64, ∑ d, (x d * ((if BitVec.ofNat 32 e.val = a then (p : EReal) else 0) + (if BitVec.ofNat 32 e.val = b then (q : EReal) else 0))) * W e d
      = p * pick a (fun e => ∑ d, x d * W e d) + q * pick b (fun e => ∑ d, x d * W e d) := by
  unfold pick
  rw [← mul_sum_real hp, ← mul_sum_real hq, ← Finset.sum_add_distrib]
  refine Finset.sum_congr rfl fun e _ => ?_
  have side : ∀ {r : ℝ}, 0 ≤ r → ∀ c : Prop, [Decidable c] →
      (r : EReal) * (if c then ∑ d, x d * W e d else 0) = ∑ d, (if c then (r : EReal) else 0) * (x d * W e d) := by
    intro r hr c _
    by_cases h : c
    · simp only [if_pos h]; exact (mul_sum_real hr _).symm
    · simp only [if_neg h, mul_zero, zero_mul, Finset.sum_const_zero]
  have nn : ∀ {r : ℝ}, 0 ≤ r → ∀ c : Prop, [Decidable c] → (0 : EReal) ≤ if c then (r : EReal) else 0 := by
    intro r hr c _
    split <;> [exact EReal.coe_nonneg.mpr hr; exact le_rfl]
  rw [side hp, side hq, ← Finset.sum_add_distrib]
  refine Finset.sum_congr rfl fun d _ => ?_
  rw [← EReal.right_distrib_of_nonneg (nn hp _) (nn hq _), mul_comm (x d), mul_assoc]

/-- The kernel's mixture of a row is the reference's. -/
theorem mix_share {s : Fin 64 → EReal} {t : Fin 64 → ℝ} (h : ∀ e, s e = t e) (a b : BitVec 32) (x : Fin 512 → EReal) (W : Fin 64 → Fin 512 → EReal) :
    ∑ e : Fin 64, ∑ d, (x d * ((if BitVec.ofNat 32 e.val = a then share (ex s) a b a else 0) + (if BitVec.ofNat 32 e.val = b then share (ex s) a b b else 0))) * W e d
      = share (prob s) a b a * pick a (fun e => ∑ d, x d * W e d) + share (prob s) a b b * pick b (fun e => ∑ d, x d * W e d) := by
  by_cases hn : ∃ e : Fin 64, BitVec.ofNat 32 e.val = a ∨ BitVec.ofNat 32 e.val = b
  · obtain ⟨p, hp, hp1, hp2⟩ := share_eq h a b a hn
    obtain ⟨q, hq, hq1, hq2⟩ := share_eq h a b b hn
    rw [hp1, hp2, hq1, hq2]
    exact mix hp hq a b x W
  · have ha : ∀ e : Fin 64, BitVec.ofNat 32 e.val ≠ a := fun e he => hn ⟨e, .inl he⟩
    have hb : ∀ e : Fin 64, BitVec.ofNat 32 e.val ≠ b := fun e he => hn ⟨e, .inr he⟩
    rw [pick_none ha, pick_none hb, mul_zero, mul_zero, add_zero]
    refine Finset.sum_eq_zero fun e _ => Finset.sum_eq_zero fun d _ => ?_
    rw [if_neg (ha e), if_neg (hb e), add_zero, mul_zero, zero_mul]

/-- A finite sum of products of reals is real. -/
theorem sum_mul_real {n : ℕ} {x r : Fin n → EReal} (hx : ∀ d, x d ≠ ⊤ ∧ x d ≠ ⊥) (hr : ∀ d, r d ≠ ⊤ ∧ r d ≠ ⊥) :
    ∃ t : ℝ, ∑ d, x d * r d = t := by
  refine ⟨∑ d, (x d).toReal * (r d).toReal, ?_⟩
  rw [coe_sum]
  refine Finset.sum_congr rfl fun d _ => ?_
  rw [EReal.coe_mul, EReal.coe_toReal (hx d).1 (hx d).2, EReal.coe_toReal (hr d).1 (hr d).2]

end Cert.Mix
-- ==== Proof.KernelValue.lean ====
/- What the result of the kernel holds, entry by entry, over the extended reals: the sum over the eight devices of the products
   of the rows, scaled by the device's weights, with the device's experts. -/
module

public import proofs.«01_k».proof.Proof.Contents
public import proofs.«01_k».proof.Proof.Mix
public import Idealize.ShloMosaic.Lib.Pointwise.Reduce
public import Idealize.ShloMosaic.Lib.Pointwise.Contract
public import Idealize.ShloMosaic.Lib.Pointwise

@[expose] public section

noncomputable section

namespace Cert.KernelIdeal.Moe

open Idealize.ShloMosaic Idealize.ShloMosaic.TcCoe
open Cert.KernelIdeal.Gen
open scoped BigOperators

/-! ## The weights -/

/-- The scores of a row. -/
def scores (x : Vec Ideal S2048x512 .bf16) (r : Vec Ideal S512x64 .bf16) (i : Fin 2048) (e : Fin 64) : EReal :=
  ∑ d : Fin 512, (x (ix2 i d) * r (ix2 d e) : EReal)

theorem select_eq (u v : BitVec 32) (y z : EReal) : Scalar.select (IntOp.cmpi .eq u v) y z = if u = v then y else z := by
  by_cases h : u = v
  · simp [Scalar.select, IntOp.cmpi, h]
  · simp [Scalar.select, IntOp.cmpi, beq_eq_false_iff_ne.mpr h, h]

/-- The number of a device's expert as the kernel computes it. -/
theorem expert_word (c : Dev nD) (l : Fin 8) :
    IntOp.addi (BitVec.ofNat 32 l.val) (Scalar.muli (idWord c) 8#32) = BitVec.ofNat 32 (8 * c.val + l.val) := by
  revert c l; decide +kernel

theorem weights_apply (w : BitVec 32) (x : Vec Ideal S2048x512 .bf16) (r : Vec Ideal S512x64 .bf16) (a b : Vec Ideal S2048x1 .i32)
    (i : Fin 2048) (l : Fin 8) :
    (k0_pay3 (k0_pay2 w (k0_pay1 x) r a b) (ix2 i l) : EReal)
      = (if IntOp.addi (BitVec.ofNat 32 l.val) (Scalar.muli w 8#32) = a (ix2 i 0)
          then Mix.share (Mix.ex (scores x r i)) (a (ix2 i 0)) (b (ix2 i 0)) (a (ix2 i 0)) else 0)
        + (if IntOp.addi (BitVec.ofNat 32 l.val) (Scalar.muli w 8#32) = b (ix2 i 0)
          then Mix.share (Mix.ex (scores x r i)) (a (ix2 i 0)) (b (ix2 i 0)) (b (ix2 i 0)) else 0) := by
  unfold k0_pay3 k0_pay2 k0_pay1
  pointwise
  simp only [select_eq]
  rfl

variable (D : Dev nD → Ins Ideal)

/-- The word in a column of a row's choices. -/
def choice (c : Dev nD) (i : Fin 2048) (j : Fin 2) : BitVec 32 := (D c).i (ix2 i j)
/-- The share of the expert that `w` names among a row's two choices. -/
def shareOf (c : Dev nD) (i : Fin 2048) (w : BitVec 32) : EReal :=
  Mix.share (Mix.ex (scores (D c).x (D c).r i)) (choice D c i 0) (choice D c i 1) w

theorem wts_apply (c : Dev nD) (i : Fin 2048) (l : Fin 8) :
    (wtsOf D c (ix2 i l) : EReal)
      = (if BitVec.ofNat 32 (8 * c.val + l.val) = choice D c i 0 then shareOf D c i (choice D c i 0) else 0)
        + (if BitVec.ofNat 32 (8 * c.val + l.val) = choice D c i 1 then shareOf D c i (choice D c i 1) else 0) := by
  have e0 : VecWindow.window (D c).i ![0, 0] S2048x1.size inb_S2048x2_S2048x1_0_0 (ix2 i 0) = choice D c i 0 := by
    refine congrArg (D c).i (funext fun a => Fin.ext ?_)
    revert a
    refine Fin.forall_fin_two.mpr ⟨?_, ?_⟩
    · show 0 + 1 * i.val = i.val; omega
    · rfl
  have e1 : VecWindow.window (D c).i ![0, 1] S2048x1.size inb_S2048x2_S2048x1_0_1 (ix2 i 0) = choice D c i 1 := by
    refine congrArg (D c).i (funext fun a => Fin.ext ?_)
    revert a
    refine Fin.forall_fin_two.mpr ⟨?_, ?_⟩
    · show 0 + 1 * i.val = i.val; omega
    · rfl
  refine (weights_apply _ _ _ _ _ i l).trans ?_
  rw [e0, e1, expert_word]
  rfl

/-! ## One device's part of a chunk -/

theorem scaled_apply (v : Vec Ideal S256x512 .bf16) (w : Vec Ideal S256x8 .bf16) (l : Fin 8) (y : Fin 256) (d : Fin 512) :
    (scaled v w l (ix2 y d) : EReal) = v (ix2 y d) * w (ix2 y l) := by
  fin_cases l
  · show k0_pay5 v w (ix2 y d) = _; unfold k0_pay5; pointwise
  · show k0_pay6 v w (ix2 y d) = _; unfold k0_pay6; pointwise
  · show k0_pay7 v w (ix2 y d) = _; unfold k0_pay7; pointwise
  · show k0_pay9 (k0_pay8 v w) (ix2 y d) = _; unfold k0_pay9 k0_pay8; pointwise
  · show k0_pay10 v w (ix2 y d) = _; unfold k0_pay10; pointwise
  · show k0_pay11 v w (ix2 y d) = _; unfold k0_pay11; pointwise
  · show k0_pay12 v w (ix2 y d) = _; unfold k0_pay12; pointwise
  · show k0_pay13 v w (ix2 y d) = _; unfold k0_pay13; pointwise

/-- A sum over the 4096 scaled columns, expert by expert. -/
theorem sum_tiles (f : Fin 8 → Fin 512 → EReal) :
    ∑ k : Fin 4096, f ⟨k.val / 512, by have := k.isLt; omega⟩ ⟨k.val % 512, Nat.mod_lt _ (by decide)⟩ = ∑ l, ∑ d, f l d := by
  rw [← Fintype.sum_prod_type', ← Equiv.sum_comp (finProdFinEquiv (m := 8) (n := 512)).symm]
  rfl

theorem product_apply (T : Fin 8 → Vec Ideal S256x512 .bf16) (E : Vec Ideal S8x512x512 .bf16) (y : Fin 256) (o : Fin 512) :
    (k0_pay14 (asmP T) E (ix2 y o) : EReal) = ∑ l : Fin 8, ∑ d : Fin 512, (T l (ix2 y d) * E (ix3 l d o) : EReal) := by
  unfold k0_pay14
  pointwise
  exact sum_tiles fun l d => T l (ix2 y d) * E (ix3 l d o)

/-- The row of the whole array that row `y` of chunk `k` is. -/
def rowOf (k : Dev nD) (y : Fin 256) : Fin 2048 := ⟨256 * k.val + y.val, by have h : k.val < 8 := k.isLt; have := y.isLt; omega⟩
/-- The column of the whole array that column `o` of half `b` is. -/
def colOf (b : Bool) (o : Fin 512) : Fin 1024 := ⟨col b + o.val, by have := o.isLt; cases b <;> simp only [col] <;> omega⟩

/-- A device's part of an entry of the result. -/
def piece (c : Dev nD) (i : Fin 2048) (o : Fin 1024) : EReal :=
  ∑ l : Fin 8, ∑ d : Fin 512, ((D c).x (ix2 i d) * wtsOf D c (ix2 i l) * (D c).e (ix3 l d o) : EReal)

theorem part_apply (c k : Dev nD) (b : Bool) (y : Fin 256) (o : Fin 512) :
    (part D c k b (ix2 y o) : EReal) = piece D c (rowOf k y) (colOf b o) := by
  refine (product_apply _ _ y o).trans ?_
  unfold piece
  refine Finset.sum_congr rfl fun l _ => Finset.sum_congr rfl fun d _ => ?_
  rw [scaled_apply]
  have ex : VecWindow.window (rowsOf D c) (offR k) S256x512.size (offX_inb k) (ix2 y d) = (D c).x (ix2 (rowOf k y) d) := by
    have : rowsOf D c = (D c).x := by
      funext j
      obtain ⟨j0, j1, rfl⟩ : ∃ (j0 : Fin 2048) (j1 : Fin 512), j = ix2 j0 j1 := ⟨j 0, j 1, eq_ix2 j⟩
      unfold rowsOf k0_pay4 k0_pay1
      pointwise
    rw [this]
    refine congrArg (D c).x (funext fun a => Fin.ext ?_)
    revert a
    refine Fin.forall_fin_two.mpr ⟨?_, ?_⟩
    · show 256 * k.val + 1 * y.val = 256 * k.val + y.val; omega
    · show 0 + 1 * d.val = d.val; omega
  have ew : VecWindow.window (wtsOf D c) (offR k) S256x8.size (offW_inb k) (ix2 y l) = wtsOf D c (ix2 (rowOf k y) l) := by
    refine congrArg (wtsOf D c) (funext fun a => Fin.ext ?_)
    revert a
    refine Fin.forall_fin_two.mpr ⟨?_, ?_⟩
    · show 256 * k.val + 1 * y.val = 256 * k.val + y.val; omega
    · show 0 + 1 * l.val = l.val; omega
  have ee : VecWindow.window (D c).e (offE b) S8x512x512.size (offE_inb b) (ix3 l d o) = (D c).e (ix3 l d (colOf b o)) := by
    refine congrArg (D c).e (funext fun a => Fin.ext ?_)
    match a with
    | ⟨0, _⟩ => show 0 + 1 * l.val = l.val; omega
    | ⟨1, _⟩ => show 0 + 1 * d.val = d.val; omega
    | ⟨2, _⟩ => show col b + 1 * o.val = col b + o.val; omega
  rw [ex, ew, ee]

/-! ## The running sums and the result -/

theorem add_apply (v w : Vec Ideal S256x512 .f32) (y : Fin 256) (o : Fin 512) :
    (k0_pay48 v (k0_pay25 w) (ix2 y o) : EReal) = v (ix2 y o) + w (ix2 y o) := by
  unfold k0_pay48 k0_pay25
  pointwise

theorem acc_apply (b : Bool) (c : Dev nD) (n : ℕ) (y : Fin 256) (o : Fin 512) :
    (acc D b c n (ix2 y o) : EReal) = ∑ j ∈ Finset.range (n + 1), piece D (back b c j) (rowOf (back b c n) y) (colOf b o) := by
  induction n generalizing c with
  | zero => rw [Finset.sum_range_one]; exact part_apply D c _ b y o
  | succ n ih =>
    rw [Finset.sum_range_succ']
    refine Eq.trans ?_ (add_comm _ _)
    exact (add_apply _ _ y o).trans (congrArg₂ (· + ·) (part_apply D c _ b y o) (ih (nb (!b) c)))

/-- After the last step the running sum is the sum over all devices. -/
theorem acc_seven (b : Bool) (c : Dev nD) (y : Fin 256) (o : Fin 512) :
    (acc D b c 7 (ix2 y o) : EReal) = ∑ d : Dev nD, piece D d (rowOf (nb b c) y) (colOf b o) := by
  rw [acc_apply, back_seven, Finset.sum_range]
  exact Function.Bijective.sum_comp (e := fun j : Fin 8 => back b c j.val)
    ⟨fun i j => back_inj b c i j, back_surj b c⟩ fun d => piece D d (rowOf (nb b c) y) (colOf b o)

theorem got_apply (b : Bool) (c : Dev nD) (y : Fin 256) (o : Fin 512) :
    (got D b c (ix2 y o) : EReal) = acc D b c 7 (ix2 y o) := by
  unfold got stC k0_pay209 k0_pay207
  pointwise

theorem outT_apply (c k : Dev nD) (b : Bool) (y : Fin 256) (o : Fin 512) :
    (outT D c k b (ix2 y o) : EReal) = ∑ d : Dev nD, piece D d (rowOf k y) (colOf b o) := by
  unfold outT
  by_cases h : k = nb b c
  · rw [if_pos h, acc_seven, ← h]
  · rw [if_neg h, got_apply, acc_seven, nb_nb]

/-- **An entry of the result on every device.** -/
theorem outC_apply (c : Dev nD) (i : Fin 2048) (o : Fin 1024) :
    (outC D c (ix2 i o) : EReal) = ∑ d : Dev nD, piece D d i o := by
  have hi := i.isLt
  have ho := o.isLt
  refine (outT_apply D c ⟨i.val / 256, by show _ < 8; omega⟩ (decide (512 ≤ o.val)) ⟨i.val % 256, Nat.mod_lt _ (by decide)⟩
    ⟨o.val % 512, Nat.mod_lt _ (by decide)⟩).trans ?_
  have e0 : rowOf ⟨i.val / 256, by show _ < 8; omega⟩ ⟨i.val % 256, Nat.mod_lt _ (by decide)⟩ = i :=
    Fin.ext (by show 256 * (i.val / 256) + i.val % 256 = i.val; omega)
  have e1 : colOf (decide (512 ≤ o.val)) ⟨o.val % 512, Nat.mod_lt _ (by decide)⟩ = o := by
    refine Fin.ext ?_
    show col (decide (512 ≤ o.val)) + o.val % 512 = o.val
    by_cases h : 512 ≤ o.val
    · rw [decide_eq_true h]; show 512 + _ = _; omega
    · rw [decide_eq_false h]; show 0 + _ = _; omega
  rw [e0, e1]

end Cert.KernelIdeal.Moe
-- ==== Proof.ReferenceValue.lean ====
/- What the result of the reference holds, entry by entry, over the extended reals. -/
module

public import proofs.«01_k».proof.Proof.Gen.ReferenceIdeal.Run
public import proofs.«01_k».proof.Proof.Mix
public import Idealize.ShloMosaic.Lib.Pointwise.Reduce
public import Idealize.ShloMosaic.Lib.Pointwise.Contract
public import Idealize.ShloMosaic.Lib.Pointwise

@[expose] public section

noncomputable section

namespace Cert.ReferenceIdeal.Value

open Idealize.ShloMosaic Idealize.ShloMosaic.TcCoe
open Cert.ReferenceIdeal Cert.ReferenceIdeal.Gen
open scoped BigOperators

variable (m : (ℓ : Loc nD τ sig) → Buf (Elt Ideal) ℓ)

/-- The four inputs, by their entries. -/
def rows (i : Fin 2048) (d : Fin 512) : EReal := (m (((0 : Dev nD).tc : Thread nD τ).loc main_arg0) : S2048x512.Idx → EReal) (ix2 i d)
def router (d : Fin 512) (e : Fin 64) : EReal := (m (((0 : Dev nD).tc : Thread nD τ).loc main_arg1) : S512x64.Idx → EReal) (ix2 d e)
def choice (i : Fin 2048) (j : Fin 2) : BitVec 32 := (m (((0 : Dev nD).tc : Thread nD τ).loc main_arg2) : S2048x2.Idx → BitVec 32) (ix2 i j)
def experts (e : Fin 64) (d : Fin 512) (o : Fin 1024) : EReal :=
  (m (((0 : Dev nD).tc : Thread nD τ).loc main_arg3) : S64x512x1024.Idx → EReal) (ix3 e d o)
/-- The scores of a row. -/
def scores (i : Fin 2048) (e : Fin 64) : EReal := ∑ d : Fin 512, rows m i d * router m d e

theorem select_eq (u v : BitVec 32) (y z : EReal) : Scalar.select (IntOp.cmpi .eq u v) y z = if v = u then y else z := by
  by_cases h : v = u
  · simp [Scalar.select, IntOp.cmpi, h]
  · simp [Scalar.select, IntOp.cmpi, beq_eq_false_iff_ne.mpr (Ne.symm h), h]

set_option maxRecDepth 10000 in
/-- **An entry of the result.** -/
theorem out_apply (i : Fin 2048) (o : Fin 1024) :
    (res_out0 m 0 : S2048x1024.Idx → EReal) (ix2 i o)
      = Mix.share (Mix.prob (scores m i)) (choice m i 0) (choice m i 1) (choice m i 0)
          * Mix.pick (choice m i 0) (fun e => ∑ d, rows m i d * experts m e d o)
        + Mix.share (Mix.prob (scores m i)) (choice m i 0) (choice m i 1) (choice m i 1)
          * Mix.pick (choice m i 1) (fun e => ∑ d, rows m i d * experts m e d o) := by
  unfold res_out0 res_main_v45
  simp only [id_eq]
  pointwise
  simp only [select_eq]
  rfl

end Cert.ReferenceIdeal.Value
-- ==== Proof.Value.lean ====
/- The value claim: of finite rows and router weights, the kernel's result on every device is the reference's. -/
module

public import proofs.«01_k».proof.Defs
public import proofs.«01_k».proof.Proof.Run
public import proofs.«01_k».proof.Proof.KernelValue
public import proofs.«01_k».proof.Proof.ReferenceValue

@[expose] public section

noncomputable section

namespace Cert.Value

open Idealize.ShloMosaic Idealize.ShloMosaic.TcCoe Idealize.SL.Sem
open Cert.KernelIdeal.Gen Cert.ReferenceIdeal.Gen
open scoped BigOperators

/-- The relations of shapes that the precondition's two texts state. -/
theorem preKernel : Cert.Pre_finite_KernelIdeal.Facts := ⟨by decide, by decide⟩
theorem preReference : Cert.Pre_finite_ReferenceIdeal.Facts := ⟨by decide, by decide⟩

attribute [local instance] preKernel

/-! ## The precondition -/

/-- What a comparison with infinity says of a number: it is real. -/
theorem finite_of_lt {v : EReal}
    (h : BitVec.ofBool (decide (FloatOps.absf (F := Ideal) (φ := .bf16) v < Ideal.ofBits .bf16 0x7F80#16)) = 1#1) : v ≠ ⊤ ∧ v ≠ ⊥ := by
  have ht : Ideal.ofBits .bf16 0x7F80#16 = (⊤ : EReal) := by simp [Ideal.ofBits, Ideal.ieee]
  have hlt : max v (-v) < ⊤ := by
    by_contra hc
    rw [ht] at h
    have : decide (FloatOps.absf (F := Ideal) (φ := .bf16) v < (⊤ : EReal)) = false := decide_eq_false hc
    rw [this] at h
    exact absurd h (by decide)
  refine ⟨fun e => ?_, fun e => ?_⟩
  · rw [e] at hlt; exact absurd hlt (by simp)
  · rw [e] at hlt; exact absurd hlt (by simp)

variable (m : (ℓ : Loc Cert.KernelIdeal.nD Cert.KernelIdeal.τ Cert.KernelIdeal.sig) → Buf (Elt Ideal) ℓ) (ρ : Dev Cert.KernelIdeal.nD → PrngReg)

/-- A device's rows and router weights, by their entries. -/
def rowAt (c : Dev Cert.KernelIdeal.nD) (i : Fin 2048) (d : Fin 512) : EReal :=
  m ((c.tc : Thread Cert.KernelIdeal.nD Cert.KernelIdeal.τ).loc Cert.KernelIdeal.main_arg0) (ix2 i d)
def routerAt (c : Dev Cert.KernelIdeal.nD) (d : Fin 512) (e : Fin 64) : EReal :=
  m ((c.tc : Thread Cert.KernelIdeal.nD Cert.KernelIdeal.τ).loc Cert.KernelIdeal.main_arg1) (ix2 d e)

theorem finite_rows (h : Cert.Pre_KernelIdeal_finite_KernelIdeal m) (c : Dev Cert.KernelIdeal.nD) (i : Fin 2048) (d : Fin 512) :
    rowAt m c i d ≠ ⊤ ∧ rowAt m c i d ≠ ⊥ := by
  have h' := congrFun (h c).1 (ix2 i d)
  unfold Cert.Pre_finite_KernelIdeal.fn at h'
  pointwise at h'
  exact finite_of_lt h'

theorem finite_router (h : Cert.Pre_KernelIdeal_finite_KernelIdeal m) (c : Dev Cert.KernelIdeal.nD) (d : Fin 512) (e : Fin 64) :
    routerAt m c d e ≠ ⊤ ∧ routerAt m c d e ≠ ⊥ := by
  have h' := congrFun (h c).2 (ix2 d e)
  unfold Cert.Pre_finite_KernelIdeal.fn at h'
  pointwise at h'
  exact finite_of_lt h'

/-! ## What the body finds is the arguments -/

theorem x0_eq (c : Dev Cert.KernelIdeal.nD) :
    Cert.KernelIdeal.Moe.x0 m ρ c = m ((c.tc : Thread Cert.KernelIdeal.nD Cert.KernelIdeal.τ).loc Cert.KernelIdeal.main_arg0) :=
  Memref.read_access_unit_zero (Elt Ideal) Cert.KernelIdeal.main_arg0
    (show (fun a => (Cert.KernelIdeal.win0_0.index (0 : Fin 1)) a * Cert.KernelIdeal.main_arg0.ty.shape.size a) = fun _ => 0 from
      funext fun a => by fin_cases a <;> decide) (fun a => by fin_cases a <;> decide) _
theorem x1_eq (c : Dev Cert.KernelIdeal.nD) :
    Cert.KernelIdeal.Moe.x1 m ρ c = m ((c.tc : Thread Cert.KernelIdeal.nD Cert.KernelIdeal.τ).loc Cert.KernelIdeal.main_arg1) :=
  Memref.read_access_unit_zero (Elt Ideal) Cert.KernelIdeal.main_arg1
    (show (fun a => (Cert.KernelIdeal.win0_1.index (0 : Fin 1)) a * Cert.KernelIdeal.main_arg1.ty.shape.size a) = fun _ => 0 from
      funext fun a => by fin_cases a <;> decide) (fun a => by fin_cases a <;> decide) _
theorem x2_eq (c : Dev Cert.KernelIdeal.nD) :
    Cert.KernelIdeal.Moe.x2 m ρ c = m ((c.tc : Thread Cert.KernelIdeal.nD Cert.KernelIdeal.τ).loc Cert.KernelIdeal.main_arg2) :=
  Memref.read_access_unit_zero (Elt Ideal) Cert.KernelIdeal.main_arg2
    (show (fun a => (Cert.KernelIdeal.win0_2.index (0 : Fin 1)) a * Cert.KernelIdeal.main_arg2.ty.shape.size a) = fun _ => 0 from
      funext fun a => by fin_cases a <;> decide) (fun a => by fin_cases a <;> decide) _
theorem x3_eq (c : Dev Cert.KernelIdeal.nD) :
    Cert.KernelIdeal.Moe.x3 m ρ c = m ((c.tc : Thread Cert.KernelIdeal.nD Cert.KernelIdeal.τ).loc Cert.KernelIdeal.main_arg3) :=
  Memref.read_access_unit_zero (Elt Ideal) Cert.KernelIdeal.main_arg3
    (show (fun a => (Cert.KernelIdeal.win0_3.index (0 : Fin 1)) a * Cert.KernelIdeal.main_arg3.ty.shape.size a) = fun _ => 0 from
      funext fun a => by fin_cases a <;> decide) (fun a => by fin_cases a <;> decide) _

/-! ## The two results -/

/-- The expert that is number `l` on device `c`. -/
def expertOf (c : Dev Cert.KernelIdeal.nD) (l : Fin 8) : Fin 64 :=
  ⟨8 * c.val + l.val, by have h : c.val < 8 := c.isLt; have := l.isLt; omega⟩

/-- A sum over the devices and their experts is a sum over the experts. -/
theorem sum_experts (f : Fin 64 → EReal) : ∑ c : Dev Cert.KernelIdeal.nD, ∑ l : Fin 8, f (expertOf c l) = ∑ e, f e := by
  rw [← Fintype.sum_prod_type', ← Equiv.sum_comp (finProdFinEquiv (m := 8) (n := 8))]
  refine Finset.sum_congr rfl fun p _ => congrArg f (Fin.ext ?_)
  show 8 * p.1.val + p.2.val = p.2.val + 8 * p.1.val
  omega

variable (m' : (ℓ : Loc Cert.ReferenceIdeal.nD Cert.ReferenceIdeal.τ Cert.ReferenceIdeal.sig) → Buf (Elt Ideal) ℓ)

/-- An expert's part of an entry, the shares taken of the exponentials and the rows scaled before the product. -/
def partOf (i : Fin 2048) (o : Fin 1024) (e : Fin 64) : EReal :=
  ∑ d : Fin 512, (Cert.ReferenceIdeal.Value.rows m' i d
          * ((if BitVec.ofNat 32 e.val = Cert.ReferenceIdeal.Value.choice m' i 0 then Mix.share (Mix.ex (Cert.ReferenceIdeal.Value.scores m' i)) (Cert.ReferenceIdeal.Value.choice m' i 0) (Cert.ReferenceIdeal.Value.choice m' i 1) (Cert.ReferenceIdeal.Value.choice m' i 0) else 0)
            + (if BitVec.ofNat 32 e.val = Cert.ReferenceIdeal.Value.choice m' i 1 then Mix.share (Mix.ex (Cert.ReferenceIdeal.Value.scores m' i)) (Cert.ReferenceIdeal.Value.choice m' i 0) (Cert.ReferenceIdeal.Value.choice m' i 1) (Cert.ReferenceIdeal.Value.choice m' i 1) else 0)))
          * Cert.ReferenceIdeal.Value.experts m' e d o

/-- The kernel's memory holds the devices' parts of the reference's arrays. -/
def Parts : Prop := ∀ c : Dev Cert.KernelIdeal.nD,
  m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
  ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
  ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
  ∧ m ((c.tc : Thread Cert.KernelIdeal.nD Cert.KernelIdeal.τ).loc Cert.KernelIdeal.main_arg3) = Layout.block ⟨3, ![8, 512, 1024]⟩ ⟨3, ![64, 512, 1024]⟩ 0 8 c (m' (((0 : Dev Cert.ReferenceIdeal.nD).tc : Thread Cert.ReferenceIdeal.nD Cert.ReferenceIdeal.τ).loc Cert.ReferenceIdeal.main_arg3))

variable {m m'} (hp : Parts m m')
include hp

theorem rows_eq (c : Dev Cert.KernelIdeal.nD) (i : Fin 2048) (d : Fin 512) :
    ((Cert.KernelIdeal.Moe.ins m ρ c).x (ix2 i d) : EReal) = Cert.ReferenceIdeal.Value.rows m' i d :=
  congrFun ((x0_eq m ρ c).trans (hp c).1) (ix2 i d)
theorem router_eq (c : Dev Cert.KernelIdeal.nD) (d : Fin 512) (e : Fin 64) :
    ((Cert.KernelIdeal.Moe.ins m ρ c).r (ix2 d e) : EReal) = Cert.ReferenceIdeal.Value.router m' d e :=
  congrFun ((x1_eq m ρ c).trans (hp c).2.1) (ix2 d e)
theorem choice_eq (c : Dev Cert.KernelIdeal.nD) (i : Fin 2048) (j : Fin 2) :
    Cert.KernelIdeal.Moe.choice (Cert.KernelIdeal.Moe.ins m ρ) c i j = Cert.ReferenceIdeal.Value.choice m' i j :=
  congrFun ((x2_eq m ρ c).trans (hp c).2.2.1) (ix2 i j)
theorem experts_eq (c : Dev Cert.KernelIdeal.nD) (l : Fin 8) (d : Fin 512) (o : Fin 1024) :
    ((Cert.KernelIdeal.Moe.ins m ρ c).e (ix3 l d o) : EReal) = Cert.ReferenceIdeal.Value.experts m' (expertOf c l) d o := by
  refine (congrFun ((x3_eq m ρ c).trans (hp c).2.2.2) (ix3 l d o)).trans ?_
  refine (Layout.block_apply _ _ _ _).trans (congrArg (m' _) (funext fun a => Fin.ext ?_))
  rw [Layout.Tiles.idx_val]
  match a with
  | ⟨0, _⟩ => show c.val * 8 + l.val = 8 * c.val + l.val; omega
  | ⟨1, _⟩ => rfl
  | ⟨2, _⟩ => rfl

theorem scores_eq (c : Dev Cert.KernelIdeal.nD) (i : Fin 2048) :
    Cert.KernelIdeal.Moe.scores (Cert.KernelIdeal.Moe.ins m ρ c).x (Cert.KernelIdeal.Moe.ins m ρ c).r i = Cert.ReferenceIdeal.Value.scores m' i := by
  funext e
  exact Finset.sum_congr rfl fun d _ => congrArg₂ (· * ·) (rows_eq ρ hp c i d) (router_eq ρ hp c d e)

/-- Of finite rows and router weights the scores are real. -/
theorem scores_real (hf : Cert.Pre_KernelIdeal_finite_KernelIdeal m) (i : Fin 2048) :
    ∃ t : Fin 64 → ℝ, ∀ e, Cert.ReferenceIdeal.Value.scores m' i e = t e := by
  have h : ∀ e, ∃ t : ℝ, Cert.ReferenceIdeal.Value.scores m' i e = t := fun e => by
    refine Mix.sum_mul_real (fun d => ?_) fun d => ?_
    · have e0 : Cert.ReferenceIdeal.Value.rows m' i d = rowAt m 0 i d := (congrFun (hp 0).1 (ix2 i d)).symm
      rw [e0]
      exact finite_rows m hf 0 i d
    · have e1 : Cert.ReferenceIdeal.Value.router m' d e = routerAt m 0 d e := (congrFun (hp 0).2.1 (ix2 d e)).symm
      rw [e1]
      exact finite_router m hf 0 d e
  exact ⟨fun e => (h e).choose, fun e => (h e).choose_spec⟩

/-- One device's part of an entry. -/
theorem piece_eq (c : Dev Cert.KernelIdeal.nD) (i : Fin 2048) (o : Fin 1024) :
    Cert.KernelIdeal.Moe.piece (Cert.KernelIdeal.Moe.ins m ρ) c i o = ∑ l : Fin 8, partOf m' i o (expertOf c l) := by
  unfold Cert.KernelIdeal.Moe.piece
  refine Finset.sum_congr rfl fun l _ => Finset.sum_congr rfl fun d _ => ?_
  rw [Cert.KernelIdeal.Moe.wts_apply]
  unfold Cert.KernelIdeal.Moe.shareOf
  rw [rows_eq ρ hp, experts_eq ρ hp, choice_eq ρ hp, choice_eq ρ hp, scores_eq ρ hp]
  rfl

/-- **The kernel's result is the reference's, on every device.** -/
theorem result_eq (hf : Cert.Pre_KernelIdeal_finite_KernelIdeal m) (c : Dev Cert.KernelIdeal.nD) :
    (Cert.KernelIdeal.Moe.outAt m ρ c : Cert.KernelIdeal.S2048x1024.Idx → EReal) = Cert.ReferenceIdeal.Value.res_out0 m' 0 := by
  funext j
  obtain ⟨i, o, rfl⟩ : ∃ (i : Fin 2048) (o : Fin 1024), j = ix2 i o := ⟨j 0, j 1, eq_ix2 j⟩
  obtain ⟨t, ht⟩ := scores_real hp hf i
  refine (Cert.KernelIdeal.Moe.outC_apply _ c i o).trans ?_
  refine Eq.trans ?_ (Cert.ReferenceIdeal.Value.out_apply m' i o).symm
  rw [Finset.sum_congr rfl fun d _ => piece_eq ρ hp d i o, sum_experts]
  exact Mix.mix_share ht _ _ (Cert.ReferenceIdeal.Value.rows m' i) fun e d => Cert.ReferenceIdeal.Value.experts m' e d o

omit hp

theorem algebraic : Cert.algebraic_KernelIdeal_ReferenceIdeal_pre_finite_KernelIdeal
    (hKernelIdeal := Cert.KernelIdeal.Gen.facts) (hReferenceIdeal := Cert.ReferenceIdeal.Gen.facts) (hPre_finite_KernelIdeal := preKernel) :=
  fun m g m' g' hf hp => ⟨Cert.ReferenceIdeal.Value.res_out0 m' 0,
    (θ_run Cert.KernelIdeal.defs _ _).mono (fun _ h c => ⟨(h.1 c).1.trans (result_eq g hp hf c), (h.1 c).2⟩) (Cert.KernelIdeal.Moe.run_all (F := Ideal) m g),
    (θ_run Cert.ReferenceIdeal.defs _ _).mono (fun _ h => h 0) (Cert.ReferenceIdeal.Value.run (F := Ideal) m' g')⟩

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Value.preKernel, Cert.Value.preReference,
  Cert.Frames.kernel, Cert.Frames.kernelIdeal, fun m g _ => Cert.Frames.kernelIdeal m g trivial,
  Cert.Frames.referenceIdeal, fun m g _ => Cert.Frames.referenceIdeal m g trivial, trivial, Cert.Value.algebraic⟩

end Cert.Proof

end
